-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_n" .f32 0x36E5F1D0#32 ((1 / 145924 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x256x384x384 : Shape := ⟨4, ![1, 256, 384, 384]⟩
abbrev S256x256x3x3 : Shape := ⟨4, ![256, 256, 3, 3]⟩
abbrev S256 : Shape := ⟨1, ![256]⟩
abbrev S_ : Shape := ⟨0, ![]⟩

class Facts : Prop where
  bcast_S_S1x256x384x384 : S_.BroadcastsInDim S1x256x384x384 (![] : Fin 0 → Fin S1x256x384x384.rank)
  reducesTo_S1x256x384x384_S_d0_1_2_3 : S1x256x384x384.ReducesTo [0, 1, 2, 3] S_
  h_S_ : 0 < S_.numel
  bcast_S_S256x256x3x3 : S_.BroadcastsInDim S256x256x3x3 (![] : Fin 0 → Fin S256x256x3x3.rank)
  reducesTo_S256x256x3x3_S_d0_1_2_3 : S256x256x3x3.ReducesTo [0, 1, 2, 3] S_

variable [Facts]

def fn {F : FTy → Type} [FloatOps F] (main_arg0 : FVec F S1x256x384x384 .f32) (main_arg1 : FVec F S1x256x384x384 .f32) (main_arg2 : FVec F S256x256x3x3 .f32) (main_arg3 : FVec F S256 .f32) : IVec S_ 1 :=
  let main_v0 : FVec F S1x256x384x384 .f32 := Host.absf main_arg0
  let main_cst : FVec F S_ .f32 := constant S_ .f32 0x7F800000#32
  let main_v1 : FVec F S1x256x384x384 .f32 := broadcastInDim S1x256x384x384 ![] bcast_S_S1x256x384x384 main_cst
  let main_v2 : IVec S1x256x384x384 1 := cmpf .olt main_v0 main_v1
  let main_c : IVec S_ 1 := constantI S_ 1 1#1
  let main_v3 : IVec S_ 1 := (fun x v => Host.reduce IntOp.andi x v reducesTo_S1x256x384x384_S_d0_1_2_3 h_S_) main_v2 main_c
  let main_v4 : FVec F S1x256x384x384 .f32 := Host.absf main_arg1
  let main_cst_0 : FVec F S_ .f32 := constant S_ .f32 0x7F800000#32
  let main_v5 : FVec F S1x256x384x384 .f32 := broadcastInDim S1x256x384x384 ![] bcast_S_S1x256x384x384 main_cst_0
  let main_v6 : IVec S1x256x384x384 1 := cmpf .olt main_v4 main_v5
  let main_c_1 : IVec S_ 1 := constantI S_ 1 1#1
  let main_v7 : IVec S_ 1 := (fun x v => Host.reduce IntOp.andi x v reducesTo_S1x256x384x384_S_d0_1_2_3 h_S_) main_v6 main_c_1
  let main_v8 : IVec S_ 1 := andi main_v3 main_v7
  let main_v9 : FVec F S256x256x3x3 .f32 := Host.absf main_arg2
  let main_cst_2 : FVec F S_ .f32 := constant S_ .f32 0x7F800000#32
  let main_v10 : FVec F S256x256x3x3 .f32 := broadcastInDim S256x256x3x3 ![] bcast_S_S256x256x3x3 main_cst_2
  let main_v11 : IVec S256x256x3x3 1 := cmpf .olt main_v9 main_v10
  let main_c_3 : IVec S_ 1 := constantI S_ 1 1#1
  let main_v12 : IVec S_ 1 := (fun x v => Host.reduce IntOp.andi x v reducesTo_S256x256x3x3_S_d0_1_2_3 h_S_) main_v11 main_c_3
  let main_v13 : IVec S_ 1 := andi main_v8 main_v12
  main_v13
-- ==== Kernel.lean ====
abbrev S1x256x384x384 : Shape := ⟨4, ![1, 256, 384, 384]⟩
abbrev S256x256x3x3 : Shape := ⟨4, ![256, 256, 3, 3]⟩
abbrev S256 : Shape := ⟨1, ![256]⟩
abbrev S256x384x384 : Shape := ⟨3, ![256, 384, 384]⟩
abbrev S256x9 : Shape := ⟨2, ![256, 9]⟩
abbrev S16x384x384 : Shape := ⟨3, ![16, 384, 384]⟩
abbrev S16x9 : Shape := ⟨2, ![16, 9]⟩
abbrev S16x384 : Shape := ⟨2, ![16, 384]⟩
abbrev S16x1x384 : Shape := ⟨3, ![16, 1, 384]⟩
abbrev S16 : Shape := ⟨1, ![16]⟩
abbrev S16x1 : Shape := ⟨2, ![16, 1]⟩
abbrev S1x2304 : Shape := ⟨2, ![1, 2304]⟩
abbrev S3x2304 : Shape := ⟨2, ![3, 2304]⟩
abbrev S256x3x3x256 : Shape := ⟨4, ![256, 3, 3, 256]⟩
abbrev S2304x256 : Shape := ⟨2, ![2304, 256]⟩
abbrev S1x256 : Shape := ⟨2, ![1, 256]⟩
abbrev S3x256 : Shape := ⟨2, ![3, 256]⟩
abbrev S256x1x1 : Shape := ⟨3, ![256, 1, 1]⟩
abbrev S8x384x384 : Shape := ⟨3, ![8, 384, 384]⟩
abbrev S8x1x1 : Shape := ⟨3, ![8, 1, 1]⟩

abbrev nBuf : Space → Nat
  | .hbm => 22
  | .vmem => 25
  | .smem => 0
  | _ => 0

abbrev bufTy : (tb : Table) → Fin (tcTables nBuf tb) → BufTy
  | .hbm, ⟨0, _⟩ => ⟨S1x256x384x384, .f32⟩
  | .hbm, ⟨1, _⟩ => ⟨S1x256x384x384, .f32⟩
  | .hbm, ⟨2, _⟩ => ⟨S256x256x3x3, .f32⟩
  | .hbm, ⟨3, _⟩ => ⟨S256, .f32⟩
  | .hbm, ⟨4, _⟩ => ⟨S256x384x384, .f32⟩
  | .hbm, ⟨5, _⟩ => ⟨S256x384x384, .f32⟩
  | .hbm, ⟨6, _⟩ => ⟨S256x9, .f32⟩
  | .hbm, ⟨7, _⟩ => ⟨S256x9, .f32⟩
  | .hbm, ⟨8, _⟩ => ⟨S256x9, .f32⟩
  | .hbm, ⟨9, _⟩ => ⟨S1x2304, .f32⟩
  | .hbm, ⟨10, _⟩ => ⟨S1x2304, .f32⟩
  | .hbm, ⟨11, _⟩ => ⟨S1x2304, .f32⟩
  | .hbm, ⟨12, _⟩ => ⟨S3x2304, .f32⟩
  | .hbm, ⟨13, _⟩ => ⟨S256x3x3x256, .f32⟩
  | .hbm, ⟨14, _⟩ => ⟨S2304x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S256x1x1, .f32⟩
  | .hbm, ⟨19, _⟩ => ⟨S256x1x1, .f32⟩
  | .hbm, ⟨20, _⟩ => ⟨S256x384x384, .f32⟩
  | .hbm, ⟨21, _⟩ => ⟨S1x256x384x384, .f32⟩
  | .local _ .vmem, ⟨0, _⟩ => ⟨S16x384x384, .f32⟩
  | .local _ .vmem, ⟨1, _⟩ => ⟨S16x384x384, .f32⟩
  | .local _ .vmem, ⟨2, _⟩ => ⟨S16x384x384, .f32⟩
  | .local _ .vmem, ⟨3, _⟩ => ⟨S16x384x384, .f32⟩
  | .local _ .vmem, ⟨4, _⟩ => ⟨S16x9, .f32⟩
  | .local _ .vmem, ⟨5, _⟩ => ⟨S16x9, .f32⟩
  | .local _ .vmem, ⟨6, _⟩ => ⟨S16x9, .f32⟩
  | .local _ .vmem, ⟨7, _⟩ => ⟨S16x9, .f32⟩
  | .local _ .vmem, ⟨8, _⟩ => ⟨S16x9, .f32⟩
  | .local _ .vmem, ⟨9, _⟩ => ⟨S16x9, .f32⟩
  | .local _ .vmem, ⟨10, _⟩ => ⟨S3x2304, .f32⟩
  | .local _ .vmem, ⟨11, _⟩ => ⟨S2304x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S8x384x384, .f32⟩
  | .local _ .vmem, ⟨16, _⟩ => ⟨S8x384x384, .f32⟩
  | .local _ .vmem, ⟨17, _⟩ => ⟨S8x384x384, .f32⟩
  | .local _ .vmem, ⟨18, _⟩ => ⟨S8x384x384, .f32⟩
  | .local _ .vmem, ⟨19, _⟩ => ⟨S8x1x1, .f32⟩
  | .local _ .vmem, ⟨20, _⟩ => ⟨S8x1x1, .f32⟩
  | .local _ .vmem, ⟨21, _⟩ => ⟨S8x1x1, .f32⟩
  | .local _ .vmem, ⟨22, _⟩ => ⟨S8x1x1, .f32⟩
  | .local _ .vmem, ⟨23, _⟩ => ⟨S8x384x384, .f32⟩
  | .local _ .vmem, ⟨24, _⟩ => ⟨S8x384x384, .f32⟩
  | _, _ => ⟨S1x256x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S3x2304 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2304x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x384x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x384x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x384x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "inv_n" => some ((1 / 145924 : ℝ) : EReal)
  | _ => none
-- ==== ReferenceIdeal.lean ====
abbrev S1x256x384x384 : Shape := ⟨4, ![1, 256, 384, 384]⟩
abbrev S256x256x3x3 : Shape := ⟨4, ![256, 256, 3, 3]⟩
abbrev S256 : Shape := ⟨1, ![256]⟩
abbrev S256x384x384 : Shape := ⟨3, ![256, 384, 384]⟩
abbrev S_ : Shape := ⟨0, ![]⟩
abbrev S256x145924 : Shape := ⟨2, ![256, 145924]⟩
abbrev S256x382x382 : Shape := ⟨3, ![256, 382, 382]⟩
abbrev S256x256x1x1 : Shape := ⟨4, ![256, 256, 1, 1]⟩
abbrev S256x256 : Shape := ⟨2, ![256, 256]⟩
abbrev S256x1 : Shape := ⟨2, ![256, 1]⟩
abbrev S1x256x1x1 : Shape := ⟨4, ![1, 256, 1, 1]⟩

abbrev nBuf : Space → Nat
  | .hbm => 249
  | .vmem => 0
  | .smem => 0
  | _ => 0

abbrev hbmTy0_0 (i : Nat) : BufTy := match i % 128 with
  | 0 => ⟨S1x256x384x384, .f32⟩
  | 1 => ⟨S1x256x384x384, .f32⟩
  | 2 => ⟨S256x256x3x3, .f32⟩
  | 3 => ⟨S256, .f32⟩
  | 4 => ⟨S1x256x384x384, .f32⟩
  | 5 => ⟨S256x384x384, .f32⟩
  | 6 => ⟨S_, .f32⟩
  | 7 => ⟨S256x145924, .f32⟩
  | 8 => ⟨S256x382x382, .f32⟩
  | 9 => ⟨S256x145924, .f32⟩
  | 10 => ⟨S256x256x1x1, .f32⟩
  | 11 => ⟨S256x256, .f32⟩
  | 12 => ⟨S256x145924, .f32⟩
  | 13 => ⟨S256x145924, .f32⟩
  | 14 => ⟨S256x382x382, .f32⟩
  | 15 => ⟨S256x145924, .f32⟩
  | 16 => ⟨S256x256x1x1, .f32⟩
  | 17 => ⟨S256x256, .f32⟩
  | 18 => ⟨S256x145924, .f32⟩
  | 19 => ⟨S256x145924, .f32⟩
  | 20 => ⟨S256x382x382, .f32⟩
  | 21 => ⟨S256x145924, .f32⟩
  | 22 => ⟨S256x256x1x1, .f32⟩
  | 23 => ⟨S256x256, .f32⟩
  | 24 => ⟨S256x145924, .f32⟩
  | 25 => ⟨S256x145924, .f32⟩
  | 26 => ⟨S256x382x382, .f32⟩
  | 27 => ⟨S256x145924, .f32⟩
  | 28 => ⟨S256x256x1x1, .f32⟩
  | 29 => ⟨S256x256, .f32⟩
  | 30 => ⟨S256x145924, .f32⟩
  | 31 => ⟨S256x145924, .f32⟩
  | 32 => ⟨S256x382x382, .f32⟩
  | 33 => ⟨S256x145924, .f32⟩
  | 34 => ⟨S256x256x1x1, .f32⟩
  | 35 => ⟨S256x256, .f32⟩
  | 36 => ⟨S256x145924, .f32⟩
  | 37 => ⟨S256x145924, .f32⟩
  | 38 => ⟨S256x382x382, .f32⟩
  | 39 => ⟨S256x145924, .f32⟩
  | 40 => ⟨S256x256x1x1, .f32⟩
  | 41 => ⟨S256x256, .f32⟩
  | 42 => ⟨S256x145924, .f32⟩
  | 43 => ⟨S256x145924, .f32⟩
  | 44 => ⟨S256x382x382, .f32⟩
  | 45 => ⟨S256x145924, .f32⟩
  | 46 => ⟨S256x256x1x1, .f32⟩
  | 47 => ⟨S256x256, .f32⟩
  | 48 => ⟨S256x145924, .f32⟩
  | 49 => ⟨S256x145924, .f32⟩
  | 50 => ⟨S256x382x382, .f32⟩
  | 51 => ⟨S256x145924, .f32⟩
  | 52 => ⟨S256x256x1x1, .f32⟩
  | 53 => ⟨S256x256, .f32⟩
  | 54 => ⟨S256x145924, .f32⟩
  | 55 => ⟨S256x145924, .f32⟩
  | 56 => ⟨S256x382x382, .f32⟩
  | 57 => ⟨S256x145924, .f32⟩
  | 58 => ⟨S256x256x1x1, .f32⟩
  | 59 => ⟨S256x256, .f32⟩
  | 60 => ⟨S256x145924, .f32⟩
  | 61 => ⟨S256x145924, .f32⟩
  | 62 => ⟨S256x1, .f32⟩
  | 63 => ⟨S256x145924, .f32⟩
  | 64 => ⟨S256x145924, .f32⟩
  | 65 => ⟨S_, .f32⟩
  | 66 => ⟨S256, .f32⟩
  | 67 => ⟨S_, .f32⟩
  | 68 => ⟨S256, .f32⟩
  | 69 => ⟨S256, .f32⟩
  | 70 => ⟨S256, .f32⟩
  | 71 => ⟨S256, .f32⟩
  | 72 => ⟨S_, .f32⟩
  | 73 => ⟨S256, .f32⟩
  | 74 => ⟨S256, .f32⟩
  | 75 => ⟨S_, .f32⟩
  | 76 => ⟨S256, .f32⟩
  | 77 => ⟨S256, .f32⟩
  | 78 => ⟨S256x384x384, .f32⟩
  | 79 => ⟨S_, .f32⟩
  | 80 => ⟨S256x145924, .f32⟩
  | 81 => ⟨S256x382x382, .f32⟩
  | 82 => ⟨S256x145924, .f32⟩
  | 83 => ⟨S256x256x1x1, .f32⟩
  | 84 => ⟨S256x256, .f32⟩
  | 85 => ⟨S256x145924, .f32⟩
  | 86 => ⟨S256x145924, .f32⟩
  | 87 => ⟨S256x382x382, .f32⟩
  | 88 => ⟨S256x145924, .f32⟩
  | 89 => ⟨S256x256x1x1, .f32⟩
  | 90 => ⟨S256x256, .f32⟩
  | 91 => ⟨S256x145924, .f32⟩
  | 92 => ⟨S256x145924, .f32⟩
  | 93 => ⟨S256x382x382, .f32⟩
  | 94 => ⟨S256x145924, .f32⟩
  | 95 => ⟨S256x256x1x1, .f32⟩
  | 96 => ⟨S256x256, .f32⟩
  | 97 => ⟨S256x145924, .f32⟩
  | 98 => ⟨S256x145924, .f32⟩
  | 99 => ⟨S256x382x382, .f32⟩
  | 100 => ⟨S256x145924, .f32⟩
  | 101 => ⟨S256x256x1x1, .f32⟩
  | 102 => ⟨S256x256, .f32⟩
  | 103 => ⟨S256x145924, .f32⟩
  | 104 => ⟨S256x145924, .f32⟩
  | 105 => ⟨S256x382x382, .f32⟩
  | 106 => ⟨S256x145924, .f32⟩
  | 107 => ⟨S256x256x1x1, .f32⟩
  | 108 => ⟨S256x256, .f32⟩
  | 109 => ⟨S256x145924, .f32⟩
  | 110 => ⟨S256x145924, .f32⟩
  | 111 => ⟨S256x382x382, .f32⟩
  | 112 => ⟨S256x145924, .f32⟩
  | 113 => ⟨S256x256x1x1, .f32⟩
  | 114 => ⟨S256x256, .f32⟩
  | 115 => ⟨S256x145924, .f32⟩
  | 116 => ⟨S256x145924, .f32⟩
  | 117 => ⟨S256x382x382, .f32⟩
  | 118 => ⟨S256x145924, .f32⟩
  | 119 => ⟨S256x256x1x1, .f32⟩
  | 120 => ⟨S256x256, .f32⟩
  | 121 => ⟨S256x145924, .f32⟩
  | 122 => ⟨S256x145924, .f32⟩
  | 123 => ⟨S256x382x382, .f32⟩
  | 124 => ⟨S256x145924, .f32⟩
  | 125 => ⟨S256x256x1x1, .f32⟩
  | 126 => ⟨S256x256, .f32⟩
  | 127 => ⟨S256x145924, .f32⟩
  | _ => ⟨S1x256x384x384, .f32⟩

abbrev hbmTy0_1 (i : Nat) : BufTy := match i % 128 with
  | 0 => ⟨S256x145924, .f32⟩
  | 1 => ⟨S256x382x382, .f32⟩
  | 2 => ⟨S256x145924, .f32⟩
  | 3 => ⟨S256x256x1x1, .f32⟩
  | 4 => ⟨S256x256, .f32⟩
  | 5 => ⟨S256x145924, .f32⟩
  | 6 => ⟨S256x145924, .f32⟩
  | 7 => ⟨S256x1, .f32⟩
  | 8 => ⟨S256x145924, .f32⟩
  | 9 => ⟨S256x145924, .f32⟩
  | 10 => ⟨S_, .f32⟩
  | 11 => ⟨S256, .f32⟩
  | 12 => ⟨S_, .f32⟩
  | 13 => ⟨S256, .f32⟩
  | 14 => ⟨S256, .f32⟩
  | 15 => ⟨S256, .f32⟩
  | 16 => ⟨S256, .f32⟩
  | 17 => ⟨S_, .f32⟩
  | 18 => ⟨S256, .f32⟩
  | 19 => ⟨S256, .f32⟩
  | 20 => ⟨S_, .f32⟩
  | 21 => ⟨S256, .f32⟩
  | 22 => ⟨S256, .f32⟩
  | 23 => ⟨S256x384x384, .f32⟩
  | 24 => ⟨S_, .f32⟩
  | 25 => ⟨S256x145924, .f32⟩
  | 26 => ⟨S256x382x382, .f32⟩
  | 27 => ⟨S256x145924, .f32⟩
  | 28 => ⟨S256x256x1x1, .f32⟩
  | 29 => ⟨S256x256, .f32⟩
  | 30 => ⟨S256x145924, .f32⟩
  | 31 => ⟨S256x145924, .f32⟩
  | 32 => ⟨S256x382x382, .f32⟩
  | 33 => ⟨S256x145924, .f32⟩
  | 34 => ⟨S256x256x1x1, .f32⟩
  | 35 => ⟨S256x256, .f32⟩
  | 36 => ⟨S256x145924, .f32⟩
  | 37 => ⟨S256x145924, .f32⟩
  | 38 => ⟨S256x382x382, .f32⟩
  | 39 => ⟨S256x145924, .f32⟩
  | 40 => ⟨S256x256x1x1, .f32⟩
  | 41 => ⟨S256x256, .f32⟩
  | 42 => ⟨S256x145924, .f32⟩
  | 43 => ⟨S256x145924, .f32⟩
  | 44 => ⟨S256x382x382, .f32⟩
  | 45 => ⟨S256x145924, .f32⟩
  | 46 => ⟨S256x256x1x1, .f32⟩
  | 47 => ⟨S256x256, .f32⟩
  | 48 => ⟨S256x145924, .f32⟩
  | 49 => ⟨S256x145924, .f32⟩
  | 50 => ⟨S256x382x382, .f32⟩
  | 51 => ⟨S256x145924, .f32⟩
  | 52 => ⟨S256x256x1x1, .f32⟩
  | 53 => ⟨S256x256, .f32⟩
  | 54 => ⟨S256x145924, .f32⟩
  | 55 => ⟨S256x145924, .f32⟩
  | 56 => ⟨S256x382x382, .f32⟩
  | 57 => ⟨S256x145924, .f32⟩
  | 58 => ⟨S256x256x1x1, .f32⟩
  | 59 => ⟨S256x256, .f32⟩
  | 60 => ⟨S256x145924, .f32⟩
  | 61 => ⟨S256x145924, .f32⟩
  | 62 => ⟨S256x382x382, .f32⟩
  | 63 => ⟨S256x145924, .f32⟩
  | 64 => ⟨S256x256x1x1, .f32⟩
  | 65 => ⟨S256x256, .f32⟩
  | 66 => ⟨S256x145924, .f32⟩
  | 67 => ⟨S256x145924, .f32⟩
  | 68 => ⟨S256x382x382, .f32⟩
  | 69 => ⟨S256x145924, .f32⟩
  | 70 => ⟨S256x256x1x1, .f32⟩
  | 71 => ⟨S256x256, .f32⟩
  | 72 => ⟨S256x145924, .f32⟩
  | 73 => ⟨S256x145924, .f32⟩
  | 74 => ⟨S256x382x382, .f32⟩
  | 75 => ⟨S256x145924, .f32⟩
  | 76 => ⟨S256x256x1x1, .f32⟩
  | 77 => ⟨S256x256, .f32⟩
  | 78 => ⟨S256x145924, .f32⟩
  | 79 => ⟨S256x145924, .f32⟩
  | 80 => ⟨S256x1, .f32⟩
  | 81 => ⟨S256x145924, .f32⟩
  | 82 => ⟨S256x145924, .f32⟩
  | 83 => ⟨S_, .f32⟩
  | 84 => ⟨S256, .f32⟩
  | 85 => ⟨S_, .f32⟩
  | 86 => ⟨S256, .f32⟩
  | 87 => ⟨S256, .f32⟩
  | 88 => ⟨S256, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S256, .i1⟩
  | 97 => ⟨S256, .i1⟩
  | 98 => ⟨S256, .i1⟩
  | 99 => ⟨S256, .i1⟩
  | 100 => ⟨S256, .f32⟩
  | 101 => ⟨S1x256x1x1, .f32⟩
  | 102 => ⟨S256, .i1⟩
  | 103 => ⟨S256, .i1⟩
  | 104 => ⟨S256, .f32⟩
  | 105 => ⟨S1x256x1x1, .f32⟩
  | 106 => ⟨S256, .i1⟩
  | 107 => ⟨S256, .i1⟩
  | 108 => ⟨S256, .i1⟩
  | 109 => ⟨S256, .i1⟩
  | 110 => ⟨S256, .i1⟩
  | 111 => ⟨S256, .f32⟩
  | 112 => ⟨S1x256x1x1, .f32⟩
  | 113 => ⟨S1x256x384x384, .f32⟩
  | 114 => ⟨S1x256x384x384, .f32⟩
  | 115 => ⟨S1x256x384x384, .f32⟩
  | 116 => ⟨S1x256x384x384, .f32⟩
  | 117 => ⟨S1x256x384x384, .f32⟩
  | 118 => ⟨S1x256x384x384, .f32⟩
  | 119 => ⟨S1x256x384x384, .f32⟩
  | 120 => ⟨S1x256x384x384, .f32⟩
  | _ => ⟨S1x256x384x384, .f32⟩

abbrev hbmTy (i : Nat) : BufTy := match i / 128 with
  | 0 => hbmTy0_0 i
  | 1 => hbmTy0_1 i
  | _ => ⟨S1x256x384x384, .f32⟩

abbrev bufTy : (tb : Table) → Fin (tcTables nBuf tb) → BufTy
  | .hbm, ⟨i, _⟩ => hbmTy i
  | _, _ => ⟨S1x256x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst_0 : Ref sig .tc := ⟨.hbm, 65, rfl⟩
abbrev main_v60 : Ref sig .tc := ⟨.hbm, 66, rfl⟩
abbrev main_cst_1 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_2 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_4 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_cst_5 : Ref sig .tc := ⟨.hbm, 138, rfl⟩
abbrev main_v128 : Ref sig .tc := ⟨.hbm, 139, rfl⟩
abbrev main_cst_6 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_cst_7 : Ref sig .tc := ⟨.hbm, 145, rfl⟩
abbrev main_v133 : Ref sig .tc := ⟨.hbm, 146, rfl⟩
abbrev main_v134 : Ref sig .tc := ⟨.hbm, 147, rfl⟩
abbrev main_cst_8 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_cst_9 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_cst_10 : Ref sig .tc := ⟨.hbm, 211, rfl⟩
abbrev main_v196 : Ref sig .tc := ⟨.hbm, 212, rfl⟩
abbrev main_cst_11 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_cst_12 : Ref sig .tc := ⟨.hbm, 218, rfl⟩
abbrev main_v201 : Ref sig .tc := ⟨.hbm, 219, rfl⟩
abbrev main_v202 : Ref sig .tc := ⟨.hbm, 220, rfl⟩
abbrev main_cst_13 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩

abbrev nD : Nat := 1
abbrev τ : Topo := Topo.v7x

variable {F : FTy → Type} [FloatOps F]
-- ==== Proof.KernelIdeal_Whole.lean ====
/-
  Loads and stores of whole buffers, by what the buffer is owned at.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions

@[expose] public section

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resources: one copy of the pipelines' algebra, and the counters beside it. -/
abbrev UU : Type := UR sig nD τ × Counters

local notation "𝕄" => MT nD τ sig Unit (Elt F) ℕ UU ℕ

/-! ## Whole buffers read and written -/

variable (c : Dev nD) (𝒱 : Variants) (bd : Option 𝒱.V) (E : Set ℕ) {α : Type} {Q : α → sProp (MT nD τ sig Unit (Elt F) ℕ UU ℕ)}

/-- The rectangle that is the whole shape places every index at itself. -/
theorem emb_all {s : Shape} (off : Fin s.rank → Nat) (inb : ∀ a, off a + s.size a ≤ s.size a) (x : s.Idx) :
    (Rect.unit (s := s) off s.size inb).emb x = x := by
  funext a
  apply Fin.ext
  rw [Rect.emb_apply]
  have := inb a
  show off a + 1 * (x a).val = (x a).val
  omega

/-- Loading all of a memref that is owned at `X` gives `X`. -/
theorem load_all {s : Shape} {e : EltTy} {M : Memref sig .tc .vmem s e} {X : s.Idx → Elt F e} {q : PosShare TreeShare}
    {off : Fin s.rank → Nat} {inb : ∀ a, off a + s.size a ≤ s.size a} {hl : M.view.LoadsAt (Rect.unit (s := s) off s.size inb).toLoadRect}
    {K : (s.Idx → Elt F e) → Prog (TpuEff nD τ sig (Elt F) Λ₀ .tc) α} :
    (owns (c : Thread nD τ) M q X : sProp 𝕄) ⊢ iprop((owns (c : Thread nD τ) M q X -∗ wp frame (wpE (defs₀ (F := F)) 𝒱 (c : Thread nD τ) bd) E (K X) Q)
      -∗ wp frame (wpE (defs₀ (F := F)) 𝒱 (c : Thread nD τ) bd) E (Prog.lift (.load M (Rect.unit (s := s) off s.size inb).toLoadRect hl) >>= K) Q) := by
  have hr : ∀ f, (M.access (Rect.unit (s := s) off s.size inb)).read (Elt F) f = M.view.read (Elt F) f := fun f => by
    funext x
    rw [View.read_apply, View.read_apply]
    show _root_.cast _ (f (M.view.emb ((Rect.unit (s := s) off s.size inb).emb x))) = _
    rw [emb_all]
  unfold owns
  iintro ⟨%f, %hf, Hm⟩ Hk
  iapply (wp_load_rect (defs := defs₀ (F := F)) 𝒱 (c : Thread nD τ) bd E (m := M) (r := Rect.unit (s := s) off s.size inb) (hl := hl) (k := K) (f := f) (S := M.view.set)
    (View.set_slice_subset _ _)) $$ Hm
  rw [hr, hf]
  iintro Hm
  iapply Hk
  iexists f
  isplitr; · ipureintro; exact hf
  iexact Hm

/-- Storing `w` over all of a memref leaves it owned at `w`. -/
theorem store_all {s : Shape} {e : EltTy} {M : Memref sig .tc .vmem s e} {X : s.Idx → Elt F e} {w : s.Idx → Elt F e}
    {off : Fin s.rank → Nat} {inb : ∀ a, off a + s.size a ≤ s.size a} {hx : (M.access (Rect.unit (s := s) off s.size inb)).Stores Finset.univ}
    {hm : Finset.univ = Finset.univ ∨ ∀ a, (Rect.unit (s := s) off s.size inb).stride a = 1}
    {K : PUnit → Prog (TpuEff nD τ sig (Elt F) Λ₀ .tc) α} :
    (owns (c : Thread nD τ) M fullShare X : sProp 𝕄) ⊢ iprop((owns (c : Thread nD τ) M fullShare w -∗ wp frame (wpE (defs₀ (F := F)) 𝒱 (c : Thread nD τ) bd) E (K ⟨⟩) Q)
      -∗ wp frame (wpE (defs₀ (F := F)) 𝒱 (c : Thread nD τ) bd) E (Prog.lift (.store M (Rect.unit (s := s) off s.size inb) w Finset.univ hx hm) >>= K) Q) := by
  unfold owns
  iintro ⟨%f, %hf, Hm⟩ Hk
  iapply (wp_store (defs := defs₀ (F := F)) 𝒱 (c : Thread nD τ) bd E (m := M) (r := Rect.unit (s := s) off s.size inb) (w := w) (hx := hx) (hm := hm) (k := K) (f := f) (S := M.view.set)
    (View.set_slice_subset M.view (Rect.unit (s := s) off s.size inb))) $$ Hm
  iintro Hm
  iapply Hk
  iexists _
  isplitr; rotate_left; · iexact Hm
  ipureintro
  have h := View.read_write_univ (v := M.access (Rect.unit (s := s) off s.size inb)) f w
  funext x
  have h' := congrFun h x
  rw [View.read_apply] at h' ⊢
  refine Eq.trans ?_ h'
  show _ = _root_.cast _ ((M.access (Rect.unit (s := s) off s.size inb)).write (Elt F) f w Finset.univ (M.view.emb ((Rect.unit (s := s) off s.size inb).emb x)))
  rw [emb_all]

end Cert.KernelIdeal.Calls
-- ==== Proof.KernelIdeal_Bodies.lean ====
/-
  The three calls' bodies: what each leaves in its result's buffers, of what its operands' buffers hold.
-/
module

public import proofs.«01_k».proof.Proof.KernelIdeal_Whole

@[expose] public section

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## What the bodies compute -/

/-- The nine window sums of each channel of a block: as the first call takes them of its first operand, -/
def sumsA (v0 : Vec F S16x384x384 .f32) : FVec F S16x9 .f32 := k0_pay27 (k0_pay13 v0) (k0_pay14 v0) (k0_pay15 v0) (k0_pay19 v0) (k0_pay20 v0) (k0_pay21 v0) (k0_pay22 v0) (k0_pay23 v0) (k0_pay24 v0) (k0_pay25 v0) (k0_pay26 v0)
/-- of its second, -/
def sumsB (v2 : Vec F S16x384x384 .f32) : FVec F S16x9 .f32 := k0_pay51 (k0_pay37 (k0_pay3 v2)) (k0_pay38 (k0_pay3 v2)) (k0_pay39 (k0_pay3 v2)) (k0_pay43 (k0_pay3 v2)) (k0_pay44 (k0_pay3 v2)) (k0_pay45 (k0_pay3 v2)) (k0_pay46 (k0_pay3 v2)) (k0_pay47 (k0_pay3 v2)) (k0_pay48 (k0_pay3 v2)) (k0_pay49 (k0_pay3 v2)) (k0_pay50 (k0_pay3 v2))
/-- and of the two together. -/
def sumsC (v0 v2 : Vec F S16x384x384 .f32) : FVec F S16x9 .f32 := k0_pay1 (k0_pay58 (k0_pay2 v0) (k0_pay3 v2)) (k0_pay62 (k0_pay2 v0) (k0_pay3 v2)) (k0_pay63 (k0_pay2 v0) (k0_pay3 v2)) (k0_pay64 (k0_pay2 v0) (k0_pay3 v2)) (k0_pay68 (k0_pay2 v0) (k0_pay3 v2)) (k0_pay69 (k0_pay2 v0) (k0_pay3 v2)) (k0_pay70 (k0_pay2 v0) (k0_pay3 v2)) (k0_pay71 (k0_pay2 v0) (k0_pay3 v2)) (k0_pay72 (k0_pay2 v0) (k0_pay3 v2)) (k0_pay73 (k0_pay2 v0) (k0_pay3 v2)) (k0_pay74 (k0_pay2 v0) (k0_pay3 v2))

variable (c : Dev nD) (𝒱 : Variants) (bd : Option 𝒱.V) (E : Set ℕ)

set_option maxHeartbeats 1000000

/-- The first call: from its two blocks, the three blocks of window sums. -/
theorem sums_body {M1 : Memref sig .tc .vmem S16x384x384 .f32} {h1 : M1.IsWhole} {M2 : Memref sig .tc .vmem S16x384x384 .f32} {h2 : M2.IsWhole} {M3 : Memref sig .tc .vmem S16x9 .f32} {h3 : M3.IsWhole} {M4 : Memref sig .tc .vmem S16x9 .f32} {h4 : M4.IsWhole} {M5 : Memref sig .tc .vmem S16x9 .f32} {h5 : M5.IsWhole}
    {i : grid0.Coords} {X1 : S16x384x384.Idx → Elt F .f32} {X2 : S16x384x384.Idx → Elt F .f32} {X3 : S16x9.Idx → Elt F .f32} {X4 : S16x9.Idx → Elt F .f32} {X5 : S16x9.Idx → Elt F .f32} {Q : PUnit → sProp 𝕄} :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5)
      ∗ ((owns (c : Thread nD τ) M1 fullShare X1 ∗ owns (c : Thread nD τ) M2 fullShare X2 ∗ owns (c : Thread nD τ) M3 fullShare (sumsA X1) ∗ owns (c : Thread nD τ) M4 fullShare (sumsB X2) ∗ owns (c : Thread nD τ) M5 fullShare (sumsC X1 X2)) -∗ Q ⟨⟩))
    ⊢ wp frame (wpE (defs₀ (F := F)) 𝒱 (c : Thread nD τ) bd) E (cc0_gkdm_window_sums i M1 h1 M2 h2 M3 h3 M4 h4 M5 h5) Q := by
  rw [cc0_gkdm_window_sums_eq_skeleton]; unfold cc0_gkdm_window_sums_skel
  rw [k0_part1_eq_skeleton, k0_part2_eq_skeleton, k0_part3_eq_skeleton]; unfold k0_part1_skel k0_part2_skel k0_part3_skel
  simp only [bind_assoc, pure_bind]
  iintro ⟨⟨H1, H2, H3, H4, H5⟩, Hk⟩
  iapply (load_all c 𝒱 bd E) $$ H1
  iintro H1
  iapply (load_all c 𝒱 bd E) $$ H2
  iintro H2
  iapply (load_all c 𝒱 bd E) $$ H3
  iintro H3
  iapply (store_all c 𝒱 bd E) $$ H3
  iintro H3
  iapply (load_all c 𝒱 bd E) $$ H4
  iintro H4
  iapply (store_all c 𝒱 bd E) $$ H4
  iintro H4
  iapply (load_all c 𝒱 bd E) $$ H5
  iintro H5
  iapply (store_all c 𝒱 bd E) $$ H5
  iintro H5
  rw [wp_pure]
  iapply fupd_intro
  iapply Hk
  isplitl [H1]; · iexact H1
  isplitl [H2]; · iexact H2
  isplitl [H3]; · iexact H3
  isplitl [H4]; · iexact H4
  iexact H5

/-- The second call: from the sums, the weights and the bias, the two rows of coefficients. -/
theorem coefs_body {M1 : Memref sig .tc .vmem S3x2304 .f32} {h1 : M1.IsWhole} {M2 : Memref sig .tc .vmem S2304x256 .f32} {h2 : M2.IsWhole} {M3 : Memref sig .tc .vmem S1x256 .f32} {h3 : M3.IsWhole} {M4 : Memref sig .tc .vmem S1x256 .f32} {h4 : M4.IsWhole} {M5 : Memref sig .tc .vmem S1x256 .f32} {h5 : M5.IsWhole}
    {X1 : S3x2304.Idx → Elt F .f32} {X2 : S2304x256.Idx → Elt F .f32} {X3 : S1x256.Idx → Elt F .f32} {X4 : S1x256.Idx → Elt F .f32} {X5 : S1x256.Idx → Elt F .f32} {Q : PUnit → sProp 𝕄} :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5)
      ∗ ((owns (c : Thread nD τ) M1 fullShare X1 ∗ owns (c : Thread nD τ) M2 fullShare X2 ∗ owns (c : Thread nD τ) M3 fullShare X3 ∗ owns (c : Thread nD τ) M4 fullShare (k1_pay8 X1 X2 X3) ∗ owns (c : Thread nD τ) M5 fullShare (k1_pay9 X1 X2 X3)) -∗ Q ⟨⟩))
    ⊢ wp frame (wpE (defs₀ (F := F)) 𝒱 (c : Thread nD τ) bd) E (cc1_gkdm_coefs M1 h1 M2 h2 M3 h3 M4 h4 M5 h5) Q := by
  rw [cc1_gkdm_coefs_eq_skeleton]; unfold cc1_gkdm_coefs_skel
  iintro ⟨⟨H1, H2, H3, H4, H5⟩, Hk⟩
  iapply (load_all c 𝒱 bd E) $$ H1
  iintro H1
  iapply (load_all c 𝒱 bd E) $$ H2
  iintro H2
  iapply (load_all c 𝒱 bd E) $$ H3
  iintro H3
  iapply (load_all c 𝒱 bd E) $$ H4
  iintro H4
  iapply (store_all c 𝒱 bd E) $$ H4
  iintro H4
  iapply (load_all c 𝒱 bd E) $$ H5
  iintro H5
  iapply (store_all c 𝒱 bd E) $$ H5
  iintro H5
  rw [wp_pure]
  iapply fupd_intro
  iapply Hk
  isplitl [H1]; · iexact H1
  isplitl [H2]; · iexact H2
  isplitl [H3]; · iexact H3
  isplitl [H4]; · iexact H4
  iexact H5

/-- The third call: from a block of each input and of each coefficient, the block of the result. -/
theorem combine_body {M1 : Memref sig .tc .vmem S8x384x384 .f32} {h1 : M1.IsWhole} {M2 : Memref sig .tc .vmem S8x384x384 .f32} {h2 : M2.IsWhole} {M3 : Memref sig .tc .vmem S8x1x1 .f32} {h3 : M3.IsWhole} {M4 : Memref sig .tc .vmem S8x1x1 .f32} {h4 : M4.IsWhole} {M5 : Memref sig .tc .vmem S8x384x384 .f32} {h5 : M5.IsWhole}
    {i : grid2.Coords} {X1 : S8x384x384.Idx → Elt F .f32} {X2 : S8x384x384.Idx → Elt F .f32} {X3 : S8x1x1.Idx → Elt F .f32} {X4 : S8x1x1.Idx → Elt F .f32} {X5 : S8x384x384.Idx → Elt F .f32} {Q : PUnit → sProp 𝕄} :
    iprop((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5)
      ∗ ((owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare (k2_pay1 X3 X1 X4 X2)) -∗ Q ⟨⟩))
    ⊢ wp frame (wpE (defs₀ (F := F)) 𝒱 (c : Thread nD τ) bd) E (cc2_gkdm_combine i M1 h1 M2 h2 M3 h3 M4 h4 M5 h5) Q := by
  rw [cc2_gkdm_combine_eq_skeleton]; unfold cc2_gkdm_combine_skel
  iintro ⟨⟨H1, H2, H3, H4, H5⟩, Hk⟩
  iapply (load_all c 𝒱 bd E) $$ H3
  iintro H3
  iapply (load_all c 𝒱 bd E) $$ H1
  iintro H1
  iapply (load_all c 𝒱 bd E) $$ H4
  iintro H4
  iapply (load_all c 𝒱 bd E) $$ H2
  iintro H2
  iapply (load_all c 𝒱 bd E) $$ H5
  iintro H5
  iapply (store_all c 𝒱 bd E) $$ H5
  iintro H5
  rw [wp_pure]
  iapply fupd_intro
  iapply Hk
  isplitl [H1]; · iexact H1
  isplitl [H2]; · iexact H2
  isplitl [H3]; · iexact H3
  isplitl [H4]; · iexact H4
  iexact H5

end Cert.KernelIdeal.Calls
-- ==== Proof.KernelIdeal_Data.lean ====
/-
  The three calls as pipelines: what they stage, what their bodies leave, and that the bodies meet it.
-/
module

public import proofs.«01_k».proof.Proof.KernelIdeal_Bodies

@[expose] public section

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

/-- Contents of every buffer a core holds between two calls. -/
abbrev Vals : Type := (c : Dev nD) → Valuation τ sig (Elt F)

variable (V : Vals (F := F))

/-! ## The window sums -/

/-- What the fetch of operand 0 stages at point `t`. -/
abbrev blk0_0 (c : Dev nD) (t : Fin cfg0.N) : (cfg0.win 0).block.Idx → Elt F (cfg0.win 0).elt :=
  ((cfg0.win 0).blk t).view.read (Elt F) (V c (Pipeline.arrRef spec0 0))
/-- What the fetch of operand 1 stages at point `t`. -/
abbrev blk0_1 (c : Dev nD) (t : Fin cfg0.N) : (cfg0.win 1).block.Idx → Elt F (cfg0.win 1).elt :=
  ((cfg0.win 1).blk t).view.read (Elt F) (V c (Pipeline.arrRef spec0 1))

/-- The call's data: every array at `V`; after a point each operand's buffer as fetched and each result's at what the body computes. -/
def dat0 (c : Dev nD) : Dat τ (Elt F) Unit ℕ UU ℕ cfg0 c where
  A w := V c (Pipeline.arrRef spec0 w)
  after w t := match w with
    | ⟨0, _⟩ => blk0_0 V c t
    | ⟨1, _⟩ => blk0_1 V c t
    | ⟨2, _⟩ => sumsA (blk0_0 V c t)
    | ⟨3, _⟩ => sumsB (blk0_1 V c t)
    | ⟨4, _⟩ => sumsC (blk0_0 V c t) (blk0_1 V c t)
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = blk0_0 V c t := by
  unfold Dat.before; rw [if_pos (fetch0_0 t)]; rfl
theorem before0_1 (c : Dev nD) (t : Fin cfg0.N) (d) : (dat0 V c).before 1 t d = blk0_1 V c t := by
  unfold Dat.before; rw [if_pos (fetch0_1 t)]; rfl

theorem obl0 (c : Dev nD) : BodyObligation (dat0 V c) (defs₀ (F := F)) 𝒱₀ () Set.univ := fun t => by
  rw [bigSep_W0, bigSep_W0]
  dsimp only
  rw [show (dat0 V c).Φ t.succ = (dat0 V c).Φ t.castSucc from rfl, show (dat0 V c).owesAt () t.succ = (dat0 V c).owesAt () t.castSucc from rfl]
  iintro ⟨HΦ, Howes, ⟨%d0, H0⟩, ⟨%d1, H1⟩, ⟨%d2, H2⟩, ⟨%d3, H3⟩, ⟨%d4, H4⟩⟩
  rw [before0_0, before0_1]
  iapply (sums_body c 𝒱₀ none Set.univ)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The coefficients -/

/-- What the fetch of operand 0 stages at point `t`. -/
abbrev blk1_0 (c : Dev nD) (t : Fin cfg1.N) : (cfg1.win 0).block.Idx → Elt F (cfg1.win 0).elt :=
  ((cfg1.win 0).blk t).view.read (Elt F) (V c (Pipeline.arrRef spec1 0))
/-- What the fetch of operand 1 stages at point `t`. -/
abbrev blk1_1 (c : Dev nD) (t : Fin cfg1.N) : (cfg1.win 1).block.Idx → Elt F (cfg1.win 1).elt :=
  ((cfg1.win 1).blk t).view.read (Elt F) (V c (Pipeline.arrRef spec1 1))
/-- What the fetch of operand 2 stages at point `t`. -/
abbrev blk1_2 (c : Dev nD) (t : Fin cfg1.N) : (cfg1.win 2).block.Idx → Elt F (cfg1.win 2).elt :=
  ((cfg1.win 2).blk t).view.read (Elt F) (V c (Pipeline.arrRef spec1 2))

/-- The call's data: every array at `V`; after a point each operand's buffer as fetched and each result's at what the body computes. -/
def dat1 (c : Dev nD) : Dat τ (Elt F) Unit ℕ UU ℕ cfg1 c where
  A w := V c (Pipeline.arrRef spec1 w)
  after w t := match w with
    | ⟨0, _⟩ => blk1_0 V c t
    | ⟨1, _⟩ => blk1_1 V c t
    | ⟨2, _⟩ => blk1_2 V c t
    | ⟨3, _⟩ => k1_pay8 (blk1_0 V c t) (blk1_1 V c t) (blk1_2 V c t)
    | ⟨4, _⟩ => k1_pay9 (blk1_0 V c t) (blk1_1 V c t) (blk1_2 V c t)
  Φ _ := Pipeline.scopedRest (Ix := Unit) (Name := ℕ) (U := UU) (Lvl := ℕ) (Val := Elt F) spec1 c
  q _ := fullShare
  owed _ := 0

theorem before1_0 (c : Dev nD) (t : Fin cfg1.N) (d) : (dat1 V c).before 0 t d = blk1_0 V c t := by
  unfold Dat.before; rw [if_pos (fetch1_0 t)]; rfl
theorem before1_1 (c : Dev nD) (t : Fin cfg1.N) (d) : (dat1 V c).before 1 t d = blk1_1 V c t := by
  unfold Dat.before; rw [if_pos (fetch1_1 t)]; rfl
theorem before1_2 (c : Dev nD) (t : Fin cfg1.N) (d) : (dat1 V c).before 2 t d = blk1_2 V c t := by
  unfold Dat.before; rw [if_pos (fetch1_2 t)]; rfl

theorem obl1 (c : Dev nD) : BodyObligation (dat1 V c) (defs₀ (F := F)) 𝒱₀ () Set.univ := fun t => by
  rw [bigSep_W1, bigSep_W1]
  dsimp only
  rw [show (dat1 V c).Φ t.succ = (dat1 V c).Φ t.castSucc from rfl, show (dat1 V c).owesAt () t.succ = (dat1 V c).owesAt () t.castSucc from rfl]
  iintro ⟨HΦ, Howes, ⟨%d0, H0⟩, ⟨%d1, H1⟩, ⟨%d2, H2⟩, ⟨%d3, H3⟩, ⟨%d4, H4⟩⟩
  rw [before1_0, before1_1, before1_2]
  iapply (coefs_body c 𝒱₀ none Set.univ (h1 := stage_whole1 0 (cfg1.slots t 0)) (h2 := stage_whole1 1 (cfg1.slots t 1)) (h3 := stage_whole1 2 (cfg1.slots t 2)) (h4 := stage_whole1 3 (cfg1.slots t 3)) (h5 := stage_whole1 4 (cfg1.slots t 4)))
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The combination -/

/-- What the fetch of operand 0 stages at point `t`. -/
abbrev blk2_0 (c : Dev nD) (t : Fin cfg2.N) : (cfg2.win 0).block.Idx → Elt F (cfg2.win 0).elt :=
  ((cfg2.win 0).blk t).view.read (Elt F) (V c (Pipeline.arrRef spec2 0))
/-- What the fetch of operand 1 stages at point `t`. -/
abbrev blk2_1 (c : Dev nD) (t : Fin cfg2.N) : (cfg2.win 1).block.Idx → Elt F (cfg2.win 1).elt :=
  ((cfg2.win 1).blk t).view.read (Elt F) (V c (Pipeline.arrRef spec2 1))
/-- What the fetch of operand 2 stages at point `t`. -/
abbrev blk2_2 (c : Dev nD) (t : Fin cfg2.N) : (cfg2.win 2).block.Idx → Elt F (cfg2.win 2).elt :=
  ((cfg2.win 2).blk t).view.read (Elt F) (V c (Pipeline.arrRef spec2 2))
/-- What the fetch of operand 3 stages at point `t`. -/
abbrev blk2_3 (c : Dev nD) (t : Fin cfg2.N) : (cfg2.win 3).block.Idx → Elt F (cfg2.win 3).elt :=
  ((cfg2.win 3).blk t).view.read (Elt F) (V c (Pipeline.arrRef spec2 3))

/-- The call's data: every array at `V`; after a point each operand's buffer as fetched and each result's at what the body computes. -/
def dat2 (c : Dev nD) : Dat τ (Elt F) Unit ℕ UU ℕ cfg2 c where
  A w := V c (Pipeline.arrRef spec2 w)
  after w t := match w with
    | ⟨0, _⟩ => blk2_0 V c t
    | ⟨1, _⟩ => blk2_1 V c t
    | ⟨2, _⟩ => blk2_2 V c t
    | ⟨3, _⟩ => blk2_3 V c t
    | ⟨4, _⟩ => k2_pay1 (blk2_2 V c t) (blk2_0 V c t) (blk2_3 V c t) (blk2_1 V c t)
  Φ _ := Pipeline.scopedRest (Ix := Unit) (Name := ℕ) (U := UU) (Lvl := ℕ) (Val := Elt F) spec2 c
  q _ := fullShare
  owed _ := 0

theorem before2_0 (c : Dev nD) (t : Fin cfg2.N) (d) : (dat2 V c).before 0 t d = blk2_0 V c t := by
  unfold Dat.before; rw [if_pos (fetch2_0 t)]; rfl
theorem before2_1 (c : Dev nD) (t : Fin cfg2.N) (d) : (dat2 V c).before 1 t d = blk2_1 V c t := by
  unfold Dat.before; rw [if_pos (fetch2_1 t)]; rfl
theorem before2_2 (c : Dev nD) (t : Fin cfg2.N) (d) : (dat2 V c).before 2 t d = blk2_2 V c t := by
  unfold Dat.before; rw [if_pos (fetch2_2 t)]; rfl
theorem before2_3 (c : Dev nD) (t : Fin cfg2.N) (d) : (dat2 V c).before 3 t d = blk2_3 V c t := by
  unfold Dat.before; rw [if_pos (fetch2_3 t)]; rfl

theorem obl2 (c : Dev nD) : BodyObligation (dat2 V c) (defs₀ (F := F)) 𝒱₀ () Set.univ := fun t => by
  rw [bigSep_W2, bigSep_W2]
  dsimp only
  rw [show (dat2 V c).Φ t.succ = (dat2 V c).Φ t.castSucc from rfl, show (dat2 V c).owesAt () t.succ = (dat2 V c).owesAt () t.castSucc from rfl]
  iintro ⟨HΦ, Howes, ⟨%d0, H0⟩, ⟨%d1, H1⟩, ⟨%d2, H2⟩, ⟨%d3, H3⟩, ⟨%d4, H4⟩⟩
  rw [before2_0, before2_1, before2_2, before2_3]
  iapply (combine_body c 𝒱₀ none Set.univ (i := grid2.coords t) (h1 := stage_whole2 0 (cfg2.slots t 0)) (h2 := stage_whole2 1 (cfg2.slots t 1)) (h3 := stage_whole2 2 (cfg2.slots t 2)) (h4 := stage_whole2 3 (cfg2.slots t 3)) (h5 := stage_whole2 4 (cfg2.slots t 4)))
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.KernelIdeal.Calls
-- ==== Proof.Sums.lean ====
/-
  What the first call's body computes from blocks of finite numbers: the nine window sums of each channel.
-/
module

public import proofs.«01_k».proof.Proof.KernelIdeal_Bodies
public import Idealize.ShloMosaic.Lib.Pointwise

@[expose] public section

set_option maxRecDepth 16384

noncomputable section

namespace Cert.Value

open Cert.KernelIdeal Cert.KernelIdeal.Gen Cert.KernelIdeal.Calls
open Idealize.ShloMosaic Idealize.ShloMosaic.Tactic

/-- Place `d + k` of an axis of 384, for one of the three shifts `d` and a place `k` of a window of 382. -/
abbrev place (d : Fin 3) (k : Fin 382) : Fin 384 := ⟨d.val + k.val, by omega⟩

/-- The sum of 382 consecutive terms of 384 from the `d`-th on. -/
def trim (d : Fin 3) (f : Fin 384 → ℝ) : ℝ := ∑ k : Fin 382, f (place d k)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem trim_zero (f : Fin 384 → ℝ) : ∑ k, f k - f 382 - f 383 = trim 0 f := by
  rw [Fin.sum_univ_castSucc (n := 383), Fin.sum_univ_castSucc (n := 382)]
  have h1 : f (Fin.last 383) = f 383 := rfl
  have h2 : f (Fin.last 382).castSucc = f 382 := rfl
  have h3 : ∑ k : Fin 382, f k.castSucc.castSucc = trim 0 f := Finset.sum_congr rfl fun k _ => congrArg f (Fin.ext (Nat.zero_add _).symm)
  rw [h1, h2, h3]; ring

theorem trim_one (f : Fin 384 → ℝ) : ∑ k, f k - f 0 - f 383 = trim 1 f := by
  rw [Fin.sum_univ_castSucc (n := 383), Fin.sum_univ_succ (n := 382)]
  have h1 : f (Fin.last 383) = f 383 := rfl
  have h2 : f (Fin.castSucc (0 : Fin 383)) = f 0 := rfl
  have h3 : ∑ k : Fin 382, f k.succ.castSucc = trim 1 f := Finset.sum_congr rfl fun k _ => congrArg f (Fin.ext (Nat.add_comm _ _))
  rw [h1, h2, h3]; ring

theorem trim_two (f : Fin 384 → ℝ) : ∑ k, f k - f 0 - f 1 = trim 2 f := by
  rw [Fin.sum_univ_succ (n := 383), Fin.sum_univ_succ (n := 382)]
  have h2 : f (Fin.succ (0 : Fin 383)) = f 1 := rfl
  have h3 : ∑ k : Fin 382, f k.succ.succ = trim 2 f := Finset.sum_congr rfl fun k _ => congrArg f (Fin.ext (by simp; omega))
  rw [h2, h3]; ring

/-- The same over the extended reals. -/
theorem etrim_zero (f : Fin 384 → ℝ) : ∑ k, (f k : EReal) - f 382 - f 383 = (trim 0 f : EReal) := by
  rw [← trim_zero, EReal.coe_sub, EReal.coe_sub, coe_sum]
theorem etrim_one (f : Fin 384 → ℝ) : ∑ k, (f k : EReal) - f 0 - f 383 = (trim 1 f : EReal) := by
  rw [← trim_one, EReal.coe_sub, EReal.coe_sub, coe_sum]
theorem etrim_two (f : Fin 384 → ℝ) : ∑ k, (f k : EReal) - f 0 - f 1 = (trim 2 f : EReal) := by
  rw [← trim_two, EReal.coe_sub, EReal.coe_sub, coe_sum]

/-- The sum over one 382 by 382 window of a channel's 384 by 384 values. -/
def win (di dj : Fin 3) (f : Fin 384 → Fin 384 → ℝ) : ℝ := trim dj fun w => trim di fun h => f h w

variable (x : S16x384x384.Idx → ℝ)

/-- A block of finite numbers. -/
abbrev fin (x : S16x384x384.Idx → ℝ) : Vec Ideal S16x384x384 .f32 := fun i => ((x i : ℝ) : EReal)

theorem pay7_at (ch : Fin 16) (w : Fin 384) : k0_pay7 (F := Ideal) (fin x) (ix2 ch w) = ((trim 0 fun h => x (ix3 ch h w) : ℝ) : EReal) := by
  pointwise [k0_pay7, k0_pay4, k0_pay6, k0_pay2]
  exact etrim_zero fun h => x (ix3 ch h w)
theorem pay8_at (ch : Fin 16) (w : Fin 384) : k0_pay8 (F := Ideal) (fin x) (ix2 ch w) = ((trim 1 fun h => x (ix3 ch h w) : ℝ) : EReal) := by
  pointwise [k0_pay8, k0_pay4, k0_pay5, k0_pay6, k0_pay2]
  exact etrim_one fun h => x (ix3 ch h w)
theorem pay9_at (ch : Fin 16) (w : Fin 384) : k0_pay9 (F := Ideal) (fin x) (ix2 ch w) = ((trim 2 fun h => x (ix3 ch h w) : ℝ) : EReal) := by
  pointwise [k0_pay9, k0_pay4, k0_pay5, k0_pay2]
  exact etrim_two fun h => x (ix3 ch h w)

/-- Nine columns side by side, read at a column. -/
theorem cat_at (v0 v1 v2 v3 v4 v5 v6 v7 v8 : FVec Ideal S16x1 .f32) (ch : Fin 16) (k : Fin 9) :
    concatenate S16x9 1 [⟨S16x1, v0⟩, ⟨S16x1, v1⟩, ⟨S16x1, v2⟩, ⟨S16x1, v3⟩, ⟨S16x1, v4⟩, ⟨S16x1, v5⟩, ⟨S16x1, v6⟩, ⟨S16x1, v7⟩, ⟨S16x1, v8⟩] concatenates_S16x1_S16x1_S16x1_S16x1_S16x1_S16x1_S16x1_S16x1_S16x1_S16x9_d1 (ix2 ch k)
      = (![v0, v1, v2, v3, v4, v5, v6, v7, v8] k) (ix2 ch 0) := by
  obtain ⟨k, hk⟩ := k
  pointwise
  interval_cases k <;> rfl

/-- The block of the first operand's sums, read at a channel and a shift. -/
theorem sumsA_at (ch : Fin 16) (di dj : Fin 3) : sumsA (F := Ideal) (fin x) (ix2 ch ⟨di.val * 3 + dj.val, by omega⟩) = ((win di dj fun h w => x (ix3 ch h w) : ℝ) : EReal) := by
  unfold sumsA k0_pay27
  refine (cat_at _ _ _ _ _ _ _ _ _ ch _).trans ?_
  fin_cases di <;> fin_cases dj
  · show k0_pay13 (F := Ideal) (fin x) (ix2 ch 0) = _
    pointwise [k0_pay13, k0_pay10, k0_pay12]; simp only [pay7_at]; exact etrim_zero _
  · show k0_pay14 (F := Ideal) (fin x) (ix2 ch 0) = _
    pointwise [k0_pay14, k0_pay10, k0_pay11, k0_pay12]; simp only [pay7_at]; exact etrim_one _
  · show k0_pay15 (F := Ideal) (fin x) (ix2 ch 0) = _
    pointwise [k0_pay15, k0_pay10, k0_pay11]; simp only [pay7_at]; exact etrim_two _
  · show k0_pay19 (F := Ideal) (fin x) (ix2 ch 0) = _
    pointwise [k0_pay19, k0_pay16, k0_pay18]; simp only [pay8_at]; exact etrim_zero _
  · show k0_pay20 (F := Ideal) (fin x) (ix2 ch 0) = _
    pointwise [k0_pay20, k0_pay16, k0_pay17, k0_pay18]; simp only [pay8_at]; exact etrim_one _
  · show k0_pay21 (F := Ideal) (fin x) (ix2 ch 0) = _
    pointwise [k0_pay21, k0_pay16, k0_pay17]; simp only [pay8_at]; exact etrim_two _
  · show subf (subf (k0_pay22 (F := Ideal) (fin x)) (k0_pay25 (fin x))) (k0_pay26 (fin x)) (ix2 ch 0) = _
    pointwise [k0_pay22, k0_pay25, k0_pay26]; simp only [pay9_at]; exact etrim_zero _
  · show subf (subf (k0_pay22 (F := Ideal) (fin x)) (k0_pay23 (fin x))) (k0_pay26 (fin x)) (ix2 ch 0) = _
    pointwise [k0_pay22, k0_pay23, k0_pay26]; simp only [pay9_at]; exact etrim_one _
  · show subf (subf (k0_pay22 (F := Ideal) (fin x)) (k0_pay23 (fin x))) (k0_pay24 (fin x)) (ix2 ch 0) = _
    pointwise [k0_pay22, k0_pay23, k0_pay24]; simp only [pay9_at]; exact etrim_two _

theorem sumsB_eq (X : Vec Ideal S16x384x384 .f32) : sumsB (F := Ideal) X = sumsA X := rfl
theorem sumsC_eq (X Y : Vec Ideal S16x384x384 .f32) : sumsC (F := Ideal) X Y = sumsA (addf (F := Ideal) (φ := .f32) X Y) := rfl

end Cert.Value
-- ==== Proof.Arrays.lean ====
/-
  What each call leaves in its result arrays, read at coordinates.
-/
module

public import proofs.«01_k».proof.Proof.KernelIdeal_Data
public import proofs.«01_k».proof.Proof.Sums
public import Idealize.ShloMosaic.Lib.Pipeline.ValueKit

@[expose] public section

set_option maxRecDepth 16384

noncomputable section

namespace Cert.Value

open Cert.KernelIdeal Cert.KernelIdeal.Gen Cert.KernelIdeal.Calls
open Idealize.ShloMosaic Idealize.ShloMosaic.TcCoe Idealize.ShloMosaic.Tactic
open Idealize.ShloMosaic.Pipeline (Dat Cfg Window)

variable (V : Vals (F := Ideal)) (c : Dev nD)

/-! ## The window sums -/

theorem idx0_0 : ∀ t : Fin cfg0.N, win0_0.index t = ![t.val, 0, 0] := (by decide +kernel : ∀ t : Fin grid0.N, _)
theorem idx0_1 : ∀ t : Fin cfg0.N, win0_1.index t = ![t.val, 0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![t.val, 0] := (by decide +kernel : ∀ t : Fin grid0.N, _)

/-- Channel `r` of the 16 that point `t` stages. -/
abbrev chan0 (t : Fin cfg0.N) (r : Fin 16) : Fin 256 := ⟨t.val * 16 + r.val, by have := t.isLt; have : cfg0.N = 16 := N_0; omega⟩

theorem blk0_0_at (t : Fin cfg0.N) (r : Fin 16) (h w : Fin 384) : blk0_0 V c t (ix3 r h w) = V c main_v0 (ix3 (chan0 t r) h w) := by
  unfold blk0_0
  blk_simp [idx0_0]
  refine congrArg (V c main_v0) ?_
  blk_ext [idx0_0]
theorem blk0_1_at (t : Fin cfg0.N) (r : Fin 16) (h w : Fin 384) : blk0_1 V c t (ix3 r h w) = V c main_v1 (ix3 (chan0 t r) h w) := by
  unfold blk0_1
  blk_simp [idx0_1]
  refine congrArg (V c main_v1) ?_
  blk_ext [idx0_1]

/-- The sums of 256 channels: channel `o`'s nine windows, in rows of three. -/
def sums (x : Fin 256 → Fin 384 → Fin 384 → ℝ) (i : S256x9.Idx) : ℝ :=
  win ⟨(i 1).val / 3, by have : (i 1).val < 9 := (i 1).isLt; omega⟩ ⟨(i 1).val % 3, Nat.mod_lt _ (by decide)⟩ (x (i 0))

/-- The sums of 16 channels of a block, the block's channels being channels of `x`. -/
theorem sumsA_block (X : Vec Ideal S16x384x384 .f32) (x : Fin 256 → Fin 384 → Fin 384 → ℝ) (g : Fin 16 → Fin 256)
    (hX : ∀ r h w, X (ix3 r h w) = (x (g r) h w : EReal)) (r : Fin 16) (k : Fin 9) :
    sumsA (F := Ideal) X (ix2 r k) = ((sums x (ix2 (g r) k) : ℝ) : EReal) := by
  have e : X = fin fun i => x (g (i 0)) (i 1) (i 2) := funext fun i => by rw [eq_ix3 i]; exact hX _ _ _
  have hk : k = ⟨(k.val / 3) * 3 + k.val % 3, by omega⟩ := Fin.ext (by simp only; omega)
  rw [e]
  conv_lhs => rw [hk]
  exact sumsA_at _ r ⟨k.val / 3, by omega⟩ ⟨k.val % 3, by omega⟩

variable (x1 x2 : Fin 256 → Fin 384 → Fin 384 → ℝ)

/-- The first array of sums. -/
theorem arr0_2 (hx : ∀ o h w, V c main_v0 (ix3 o h w) = (x1 o h w : EReal)) :
    (dat0 V c).arrAt 2 cfg0.N = fun i => ((sums x1 i : ℝ) : EReal) := by
  refine (dat0 V c).arrAt_eq_of_covers 2 _ (by decide +kernel) fun t hf y => ?_
  blk_simp
  idx_vars y
  refine (sumsA_block (blk0_0 V c t) x1 (chan0 t) (fun r h w => (blk0_0_at V c t r h w).trans (hx _ _ _)) _ _).trans ?_
  refine congrArg (fun i => ((sums x1 i : ℝ) : EReal)) ?_
  blk_ext [idx0_2]
/-- The second. -/
theorem arr0_3 (hx : ∀ o h w, V c main_v1 (ix3 o h w) = (x2 o h w : EReal)) :
    (dat0 V c).arrAt 3 cfg0.N = fun i => ((sums x2 i : ℝ) : EReal) := by
  refine (dat0 V c).arrAt_eq_of_covers 3 _ (by decide +kernel) fun t hf y => ?_
  blk_simp
  idx_vars y
  refine (sumsA_block (blk0_1 V c t) x2 (chan0 t) (fun r h w => (blk0_1_at V c t r h w).trans (hx _ _ _)) _ _).trans ?_
  refine congrArg (fun i => ((sums x2 i : ℝ) : EReal)) ?_
  blk_ext [idx0_3]
/-- The third, of the two operands added. -/
theorem arr0_4 (hx1 : ∀ o h w, V c main_v0 (ix3 o h w) = (x1 o h w : EReal)) (hx2 : ∀ o h w, V c main_v1 (ix3 o h w) = (x2 o h w : EReal)) :
    (dat0 V c).arrAt 4 cfg0.N = fun i => ((sums (x1 + x2) i : ℝ) : EReal) := by
  refine (dat0 V c).arrAt_eq_of_covers 4 _ (by decide +kernel) fun t hf y => ?_
  blk_simp
  idx_vars y
  refine (sumsA_block (addf (F := Ideal) (φ := .f32) (blk0_0 V c t) (blk0_1 V c t)) (x1 + x2) (chan0 t) (fun r h w => ?_) _ _).trans ?_
  · refine (congrArg₂ (fun a b : EReal => a + b) ((blk0_0_at V c t r h w).trans (hx1 _ _ _)) ((blk0_1_at V c t r h w).trans (hx2 _ _ _))).trans ?_
    exact (EReal.coe_add _ _).symm
  refine congrArg (fun i => ((sums (x1 + x2) i : ℝ) : EReal)) ?_
  blk_ext [idx0_4]

/-! ## The coefficients -/

theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)

theorem blk1_0_eq (t : Fin cfg1.N) : blk1_0 V c t = V c main_v6 := by
  funext y
  unfold blk1_0
  blk_simp
  refine congrArg (V c main_v6) ?_
  blk_ext [idx1_0]
theorem blk1_1_eq (t : Fin cfg1.N) : blk1_1 V c t = V c main_v8 := by
  funext y
  unfold blk1_1
  blk_simp
  refine congrArg (V c main_v8) ?_
  blk_ext [idx1_1]
theorem blk1_2_eq (t : Fin cfg1.N) : blk1_2 V c t = V c main_v9 := by
  funext y
  unfold blk1_2
  blk_simp
  refine congrArg (V c main_v9) ?_
  blk_ext [idx1_2]

/-- The first array of coefficients: the body's over the whole operands. -/
theorem arr1_3 : (dat1 V c).arrAt 3 cfg1.N = k1_pay8 (F := Ideal) (V c main_v6) (V c main_v8) (V c main_v9) := by
  refine (dat1 V c).arrAt_eq_of_covers 3 _ (by decide +kernel) fun t hf y => ?_
  blk_simp
  idx_vars y
  show k1_pay8 (F := Ideal) (blk1_0 V c t) (blk1_1 V c t) (blk1_2 V c t) _ = _
  rw [blk1_0_eq, blk1_1_eq, blk1_2_eq]
  refine congrArg (k1_pay8 (F := Ideal) (V c main_v6) (V c main_v8) (V c main_v9)) ?_
  blk_ext [idx1_3]
/-- The second. -/
theorem arr1_4 : (dat1 V c).arrAt 4 cfg1.N = k1_pay9 (F := Ideal) (V c main_v6) (V c main_v8) (V c main_v9) := by
  refine (dat1 V c).arrAt_eq_of_covers 4 _ (by decide +kernel) fun t hf y => ?_
  blk_simp
  idx_vars y
  show k1_pay9 (F := Ideal) (blk1_0 V c t) (blk1_1 V c t) (blk1_2 V c t) _ = _
  rw [blk1_0_eq, blk1_1_eq, blk1_2_eq]
  refine congrArg (k1_pay9 (F := Ideal) (V c main_v6) (V c main_v8) (V c main_v9)) ?_
  blk_ext [idx1_4]

/-! ## The combination -/

theorem idx2_0 : ∀ t : Fin cfg2.N, win2_0.index t = ![t.val, 0, 0] := (by decide +kernel : ∀ t : Fin grid2.N, _)
theorem idx2_1 : ∀ t : Fin cfg2.N, win2_1.index t = ![t.val, 0, 0] := (by decide +kernel : ∀ t : Fin grid2.N, _)
theorem idx2_2 : ∀ t : Fin cfg2.N, win2_2.index t = ![t.val, 0, 0] := (by decide +kernel : ∀ t : Fin grid2.N, _)
theorem idx2_3 : ∀ t : Fin cfg2.N, win2_3.index t = ![t.val, 0, 0] := (by decide +kernel : ∀ t : Fin grid2.N, _)
theorem idx2_4 : ∀ t : Fin cfg2.N, win2_4.index t = ![t.val, 0, 0] := (by decide +kernel : ∀ t : Fin grid2.N, _)

/-- Channel `r` of the 8 that point `t` stages. -/
abbrev chan2 (t : Fin cfg2.N) (r : Fin 8) : Fin 256 := ⟨t.val * 8 + r.val, by have := t.isLt; have : cfg2.N = 32 := N_2; omega⟩

theorem blk2_0_at (t : Fin cfg2.N) (r : Fin 8) (h w : Fin 384) : blk2_0 V c t (ix3 r h w) = V c main_v0 (ix3 (chan2 t r) h w) := by
  unfold blk2_0
  blk_simp [idx2_0]
  refine congrArg (V c main_v0) ?_
  blk_ext [idx2_0]
theorem blk2_1_at (t : Fin cfg2.N) (r : Fin 8) (h w : Fin 384) : blk2_1 V c t (ix3 r h w) = V c main_v1 (ix3 (chan2 t r) h w) := by
  unfold blk2_1
  blk_simp [idx2_1]
  refine congrArg (V c main_v1) ?_
  blk_ext [idx2_1]
theorem blk2_2_at (t : Fin cfg2.N) (r : Fin 8) : blk2_2 V c t (ix3 r 0 0) = V c main_v11 (ix3 (chan2 t r) 0 0) := by
  unfold blk2_2
  blk_simp [idx2_2]
  refine congrArg (V c main_v11) ?_
  blk_ext [idx2_2]
theorem blk2_3_at (t : Fin cfg2.N) (r : Fin 8) : blk2_3 V c t (ix3 r 0 0) = V c main_v12 (ix3 (chan2 t r) 0 0) := by
  unfold blk2_3
  blk_simp [idx2_3]
  refine congrArg (V c main_v12) ?_
  blk_ext [idx2_3]

/-- Each element of the result: its channel's two coefficients times the two operands' elements. -/
def comb (c1 c2 : Vec Ideal S256x1x1 .f32) (X1 X2 : Vec Ideal S256x384x384 .f32) : Vec Ideal S256x384x384 .f32 := fun i =>
  (show EReal from c1 (ix3 (i 0) 0 0)) * (show EReal from X1 i) + (show EReal from c2 (ix3 (i 0) 0 0)) * (show EReal from X2 i)

/-- What the body makes of its blocks, read at an element. -/
theorem k2_pay1_at (a b : Vec Ideal S8x1x1 .f32) (X Y : Vec Ideal S8x384x384 .f32) (r : Fin 8) (h w : Fin 384) :
    k2_pay1 (F := Ideal) a X b Y (ix3 r h w)
      = (show EReal from a (ix3 r 0 0)) * (show EReal from X (ix3 r h w)) + (show EReal from b (ix3 r 0 0)) * (show EReal from Y (ix3 r h w)) := by
  pointwise [k2_pay1]

theorem arr2_4 : (dat2 V c).arrAt 4 cfg2.N = comb (V c main_v11) (V c main_v12) (V c main_v0) (V c main_v1) := by
  refine (dat2 V c).arrAt_eq_of_covers 4 _ (by decide +kernel) fun t hf y => ?_
  blk_simp
  idx_vars y
  have e : ((cfg2.win 4).blk t).view.emb (ix3 y0 y1 y2) = ix3 (chan2 t y0) y1 y2 := by blk_ext [idx2_4]
  refine (k2_pay1_at (blk2_2 V c t) (blk2_3 V c t) (blk2_0 V c t) (blk2_1 V c t) y0 y1 y2).trans ?_
  rw [blk2_0_at, blk2_1_at, blk2_2_at, blk2_3_at]
  exact (congrArg (comb (V c main_v11) (V c main_v12) (V c main_v0) (V c main_v1)) e).symm

end Cert.Value
-- ==== Proof.RefMean.lean ====
/-
  The reference's pooled means: a sum of nine products and a bias over every window place, divided by their number.
-/
module

public import proofs.«01_k».proof.Proof.Gen.ReferenceIdeal.Run
public import proofs.«01_k».proof.Proof.Sums

@[expose] public section

set_option maxRecDepth 16384

noncomputable section

namespace Cert.Value

open Cert.ReferenceIdeal Cert.ReferenceIdeal.Gen Cert.ReferenceIdeal.Value
open Idealize.ShloMosaic Idealize.ShloMosaic.TcCoe Idealize.ShloMosaic.Tactic

/-- One of the nine products: of the weights at `(di, dj)` and the operand shifted by it. -/
def prod9 (X : FVec Ideal S256x384x384 .f32) (W : FVec Ideal S256x256x3x3 .f32) (o1 : Fin 4 → Nat) (h1 : S256x256x3x3.Slices o1 S256x256x1x1) (o2 : Fin 3 → Nat) (h2 : S256x384x384.Slices o2 S256x382x382) : FVec Ideal S256x145924 .f32 :=
  Host.dotGeneral dot_S256x256_S256x145924_S256x145924_1_0_0_1_n_n none (shapeCast _ (extractStridedSlice S256x256x1x1 o1 W h1) shapeCasts_S256x256x1x1_S256x256) (shapeCast _ (extractStridedSlice S256x382x382 o2 X h2) shapeCasts_S256x382x382_S256x145924)

/-- The product at `(di, dj)` for finite weights and operand, at a channel and a window place numbered row by row. -/
def term (w : Fin 256 → Fin 256 → Fin 3 → Fin 3 → ℝ) (x : Fin 256 → Fin 384 → Fin 384 → ℝ) (o : Fin 256) (di dj : Fin 3) (p : Fin 145924) : ℝ :=
  ∑ k, w o k di dj * x k (place di ⟨p.val / 382, by omega⟩) (place dj ⟨p.val % 382, by omega⟩)

variable (X : FVec Ideal S256x384x384 .f32) (W : FVec Ideal S256x256x3x3 .f32) (b : FVec Ideal S256 .f32)
variable (w : Fin 256 → Fin 256 → Fin 3 → Fin 3 → ℝ) (x : Fin 256 → Fin 384 → Fin 384 → ℝ)

theorem prod9_at (hX : ∀ k i j, X (ix3 k i j) = (x k i j : EReal)) (hW : ∀ o k i j, W (ix4 o k i j) = (w o k i j : EReal))
    (di dj : Fin 3) (h1) (h2) (o : Fin 256) (p : Fin 145924) :
    prod9 X W ![0, 0, di.val, dj.val] h1 ![0, di.val, dj.val] h2 (ix2 o p) = ((term w x o di dj p : ℝ) : EReal) := by
  pointwise [prod9]
  unfold term
  rw [coe_sum]
  refine Finset.sum_congr rfl fun k _ => ?_
  rw [hX, hW, EReal.coe_mul]

/-- A sum over the 382 by 382 places numbered row by row. -/
theorem sum_place (f : Fin 382 → Fin 382 → ℝ) : ∑ p : Fin 145924, f ⟨p.val / 382, by omega⟩ ⟨p.val % 382, by omega⟩ = ∑ h, ∑ v, f h v := by
  rw [← Fintype.sum_prod_type' f]
  exact Equiv.sum_comp (finProdFinEquiv.symm : Fin (382 * 382) ≃ Fin 382 × Fin 382) fun q => f q.1 q.2

theorem sum_term (o : Fin 256) (di dj : Fin 3) : ∑ p, term w x o di dj p = ∑ k, w o k di dj * win di dj (x k) := by
  unfold term win trim
  rw [Finset.sum_comm]
  refine Finset.sum_congr rfl fun k _ => ?_
  rw [← Finset.mul_sum, sum_place fun h v => x k (place di h) (place dj v), Finset.sum_comm]

/-- The product of the weights with the window sums. -/
def lin (o : Fin 256) : ℝ := ∑ k, ∑ di, ∑ dj, w o k di dj * win di dj (x k)

/-- The nine products at one window place. -/
def nine (o : Fin 256) (p : Fin 145924) : ℝ :=
  term w x o 0 0 p + term w x o 0 1 p + term w x o 0 2 p + term w x o 1 0 p + term w x o 1 1 p + term w x o 1 2 p
    + term w x o 2 0 p + term w x o 2 1 p + term w x o 2 2 p

theorem sum_nine (o : Fin 256) : ∑ p, nine w x o p = lin w x o := by
  unfold nine lin
  simp only [Fin.sum_univ_three, Finset.sum_add_distrib, sum_term]
  ring

theorem sum_const_top (n : ℕ) : ∑ _p : Fin (n + 1), (⊤ : EReal) = ⊤ := by
  induction n with
  | zero => simp
  | succ n ih => rw [Fin.sum_univ_succ, ih]; rfl
theorem sum_const_bot (n : ℕ) : ∑ _p : Fin (n + 1), (⊥ : EReal) = ⊥ := by
  rw [Fin.sum_univ_succ, EReal.bot_add]

/-- A mean of finite terms, each with the same bias added, is the terms' mean with it added: for an infinite bias too. -/
theorem mean_bias {n : ℕ} (A : Fin n → ℝ) (β : EReal) (N : ℝ) (hN : N = (n : ℝ)) (hn : 0 < n) (g : Fin n → EReal) (hg : ∀ p, g p = (A p : EReal) + β) :
    Ideal.div (∑ p, g p) (N : EReal) = (((∑ p, A p) * (1 / N) : ℝ) : EReal) + β := by
  obtain ⟨n, rfl⟩ : ∃ k, n = k + 1 := ⟨n - 1, by omega⟩
  rw [Finset.sum_congr rfl fun p _ => hg p]
  have hn : (0 : ℝ) < N := by rw [hN]; positivity
  rw [Ideal.div_coe hn.ne']
  induction β using EReal.rec with
  | bot => simp only [EReal.add_bot]; rw [sum_const_bot, EReal.bot_mul_coe_of_pos (one_div_pos.mpr hn)]
  | top => simp only [EReal.coe_add_top]; rw [sum_const_top, EReal.top_mul_coe_of_pos (one_div_pos.mpr hn)]
  | coe β =>
    simp only [← EReal.coe_add, ← coe_sum, ← EReal.coe_mul]
    congr 1
    rw [Finset.sum_add_distrib, Finset.sum_const, Finset.card_univ, Fintype.card_fin, nsmul_eq_mul, ← hN, add_mul]
    field_simp

theorem count_bits : Ideal.ofBits .f32 1208910080#32 = ((145924 : ℝ) : EReal) := by
  simp [Ideal.ofBits, Ideal.ieee, -EReal.coe_mul]
  norm_num

/-- The pooled means of an operand. -/
def meanV (X : FVec Ideal S256x384x384 .f32) (W : FVec Ideal S256x256x3x3 .f32) (b : FVec Ideal S256 .f32) : FVec Ideal S256 .f32 :=
  Host.divf (Host.reduceAdd (addf (addf (addf (addf (addf (addf (addf (addf (addf (addf (broadcastInDim S256x145924 ![] bcast_S_S256x145924 (constant S_ .f32 0x00000000#32))
    (prod9 X W ![0, 0, 0, 0] slices_S256x256x3x3_S256x256x1x1_0_0_0_0 ![0, 0, 0] slices_S256x384x384_S256x382x382_0_0_0))
    (prod9 X W ![0, 0, 0, 1] slices_S256x256x3x3_S256x256x1x1_0_0_0_1 ![0, 0, 1] slices_S256x384x384_S256x382x382_0_0_1))
    (prod9 X W ![0, 0, 0, 2] slices_S256x256x3x3_S256x256x1x1_0_0_0_2 ![0, 0, 2] slices_S256x384x384_S256x382x382_0_0_2))
    (prod9 X W ![0, 0, 1, 0] slices_S256x256x3x3_S256x256x1x1_0_0_1_0 ![0, 1, 0] slices_S256x384x384_S256x382x382_0_1_0))
    (prod9 X W ![0, 0, 1, 1] slices_S256x256x3x3_S256x256x1x1_0_0_1_1 ![0, 1, 1] slices_S256x384x384_S256x382x382_0_1_1))
    (prod9 X W ![0, 0, 1, 2] slices_S256x256x3x3_S256x256x1x1_0_0_1_2 ![0, 1, 2] slices_S256x384x384_S256x382x382_0_1_2))
    (prod9 X W ![0, 0, 2, 0] slices_S256x256x3x3_S256x256x1x1_0_0_2_0 ![0, 2, 0] slices_S256x384x384_S256x382x382_0_2_0))
    (prod9 X W ![0, 0, 2, 1] slices_S256x256x3x3_S256x256x1x1_0_0_2_1 ![0, 2, 1] slices_S256x384x384_S256x382x382_0_2_1))
    (prod9 X W ![0, 0, 2, 2] slices_S256x256x3x3_S256x256x1x1_0_0_2_2 ![0, 2, 2] slices_S256x384x384_S256x382x382_0_2_2))
    (broadcastInDim S256x145924 ![0, 1] bcast_S256x1_S256x145924_0_1 (broadcastInDim S256x1 ![0] bcast_S256_S256x1_0 b)))
    (constant S_ .f32 0x00000000#32) reducesTo_S256x145924_S256_d1 h_S_) (broadcastInDim S256 ![] bcast_S_S256 (constant S_ .f32 0x480E8100#32))

theorem v62_eq (V0 : Valuation τ sig (Elt Ideal)) : res_main_v62 V0 = meanV (res_main_v1 V0) (V0 (Proc.devRef .tc main_arg2)) (V0 (Proc.devRef .tc main_arg3)) := rfl
theorem v130_eq (V0 : Valuation τ sig (Elt Ideal)) : res_main_v130 V0 = meanV (res_main_v69 V0) (V0 (Proc.devRef .tc main_arg2)) (V0 (Proc.devRef .tc main_arg3)) := rfl
theorem v198_eq (V0 : Valuation τ sig (Elt Ideal)) : res_main_v198 V0 = meanV (res_main_v137 V0) (V0 (Proc.devRef .tc main_arg2)) (V0 (Proc.devRef .tc main_arg3)) := rfl

theorem add_nine {a0 a1 a2 a3 a4 a5 a6 a7 a8 β : EReal} {t0 t1 t2 t3 t4 t5 t6 t7 t8 : ℝ} (h0 : a0 = t0) (h1 : a1 = t1) (h2 : a2 = t2) (h3 : a3 = t3) (h4 : a4 = t4)
    (h5 : a5 = t5) (h6 : a6 = t6) (h7 : a7 = t7) (h8 : a8 = t8) :
    a0 + a1 + a2 + a3 + a4 + a5 + a6 + a7 + a8 + β = ((t0 + t1 + t2 + t3 + t4 + t5 + t6 + t7 + t8 : ℝ) : EReal) + β := by
  subst h0 h1 h2 h3 h4 h5 h6 h7 h8
  simp only [EReal.coe_add]

/-- The pooled mean of a channel: its product with the window sums over the number of places, and its bias. -/
theorem meanV_at (hX : ∀ k i j, X (ix3 k i j) = (x k i j : EReal)) (hW : ∀ o k i j, W (ix4 o k i j) = (w o k i j : EReal)) (o : Fin 256) :
    meanV X W b (ix1 o) = ((lin w x o * (1 / 145924) : ℝ) : EReal) + (show EReal from b (ix1 o)) := by
  have e := prod9_at X W w x hX hW
  pointwise [meanV]
  rw [count_bits]
  refine (mean_bias (nine w x o) (show EReal from b (ix1 o)) 145924 (by norm_num) (by norm_num) _ fun p => ?_).trans ?_
  · exact add_nine (e 0 0 _ _ o p) (e 0 1 _ _ o p) (e 0 2 _ _ o p) (e 1 0 _ _ o p) (e 1 1 _ _ o p) (e 1 2 _ _ o p) (e 2 0 _ _ o p) (e 2 1 _ _ o p) (e 2 2 _ _ o p)
  · rw [sum_nine]

end Cert.Value
-- ==== Proof.Coefs.lean ====
/-
  The coefficients of the second call, read at a channel.
-/
module

public import proofs.«01_k».proof.Proof.Arrays
public import proofs.«01_k».proof.Proof.RefMean

@[expose] public section

set_option maxRecDepth 16384

noncomputable section

namespace Cert.Value

open Cert.KernelIdeal Cert.KernelIdeal.Gen Cert.KernelIdeal.Calls
open Idealize.ShloMosaic Idealize.ShloMosaic.TcCoe Idealize.ShloMosaic.Tactic

/-- One channel's attention from its linear part and its bias. -/
def att (l : ℝ) (β : EReal) : EReal := Ideal.logistic (((l * (1 / 145924) : ℝ) : EReal) + β)

/-- One where the condition holds, zero elsewhere. -/
def one (p : Bool) : ℝ := if p then 1 else 0

/-- The first operand leads both others; the second does; the sum does. -/
def lead1 (A B C : EReal) : ℝ := one (decide (B ≤ A) && decide (C ≤ A))
def lead2 (A B C : EReal) : ℝ := one (decide (A ≤ B) && decide (C ≤ B))
def lead3 (A B C : EReal) : ℝ := one ((decide (B ≤ A) && decide (A < C)) || (decide (A ≤ B) && decide (B < C)))

/-- The result at a place, from the three attentions of its channel. -/
def mix (A B C : EReal) (p q : ℝ) : ℝ := (lead1 A B C + lead3 A B C) * p + (lead2 A B C + lead3 A B C) * q

theorem select_and (p q : Bool) : Scalar.select (IntOp.andi (BitVec.ofBool p) (BitVec.ofBool q)) (1 : EReal) 0 = (one (p && q) : EReal) := by
  cases p <;> cases q <;> simp [one, Scalar.select, IntOp.andi]
theorem select_or (p q r s : Bool) :
    Scalar.select (IntOp.ori (IntOp.andi (BitVec.ofBool p) (BitVec.ofBool q)) (IntOp.andi (BitVec.ofBool r) (BitVec.ofBool s))) (1 : EReal) 0
      = (one ((p && q) || (r && s)) : EReal) := by
  cases p <;> cases q <;> cases r <;> cases s <;> simp [one, Scalar.select, IntOp.andi, IntOp.ori]

variable (s : Vec Ideal S3x2304 .f32) (wt : Vec Ideal S2304x256 .f32) (b : Vec Ideal S1x256 .f32)

theorem inv_n : (Named.named κ "inv_n" 0x36E5F1D0#32 : Ideal .f32) = (((1 / 145924 : ℝ) : EReal)) :=
  IdealRules.named_const.ideal_named_scalar κ "inv_n" _ _ rfl

theorem pay1_at (r : Fin 3) (o : Fin 256) :
    k1_pay1 (F := Ideal) s wt b (ix2 r o) = Ideal.logistic ((∑ k : Fin 2304, (show EReal from s (ix2 r k)) * (show EReal from wt (ix2 k o))) * ((1 / 145924 : ℝ) : EReal) + (show EReal from b (ix2 0 o))) := by
  pointwise [k1_pay1]
  rw [inv_n]

theorem pay8_coef (o : Fin 256) :
    k1_pay8 (F := Ideal) s wt b (ix2 0 o)
      = ((lead1 (k1_pay1 s wt b (ix2 0 o)) (k1_pay1 s wt b (ix2 1 o)) (k1_pay1 s wt b (ix2 2 o)) + lead3 (k1_pay1 s wt b (ix2 0 o)) (k1_pay1 s wt b (ix2 1 o)) (k1_pay1 s wt b (ix2 2 o)) : ℝ) : EReal) := by
  pointwise [k1_pay8, k1_pay7, k1_pay6, k1_pay5, k1_pay4, k1_pay3, k1_pay2]
  rw [select_and, select_or, EReal.coe_add]
  rfl
theorem pay9_coef (o : Fin 256) :
    k1_pay9 (F := Ideal) s wt b (ix2 0 o)
      = ((lead2 (k1_pay1 s wt b (ix2 0 o)) (k1_pay1 s wt b (ix2 1 o)) (k1_pay1 s wt b (ix2 2 o)) + lead3 (k1_pay1 s wt b (ix2 0 o)) (k1_pay1 s wt b (ix2 1 o)) (k1_pay1 s wt b (ix2 2 o)) : ℝ) : EReal) := by
  pointwise [k1_pay9, k1_pay7, k1_pay6, k1_pay5, k1_pay4, k1_pay3, k1_pay2]
  rw [select_and, select_or, EReal.coe_add]
  rfl

/-- A sum over the flattened channels and windows is the sum over each. -/
theorem sum_flat (f : Fin 256 → Fin 3 → Fin 3 → ℝ) :
    ∑ k : Fin 2304, f ⟨k.val / 9, by omega⟩ ⟨k.val % 9 / 3, by omega⟩ ⟨k.val % 9 % 3, by omega⟩ = ∑ a, ∑ i, ∑ j, f a i j := by
  have h : ∀ a, ∑ i, ∑ j, f a i j = ∑ m : Fin 9, f a ⟨m.val / 3, by omega⟩ ⟨m.val % 3, by omega⟩ := fun a => by
    rw [← Fintype.sum_prod_type' (f a)]
    exact (Equiv.sum_comp (finProdFinEquiv.symm : Fin (3 * 3) ≃ Fin 3 × Fin 3) fun q => f a q.1 q.2).symm
  rw [Finset.sum_congr rfl fun a _ => h a, ← Fintype.sum_prod_type' fun (a : Fin 256) (m : Fin 9) => f a ⟨m.val / 3, by omega⟩ ⟨m.val % 3, by omega⟩]
  exact Equiv.sum_comp (finProdFinEquiv.symm : Fin (256 * 9) ≃ Fin 256 × Fin 9) fun q => f q.1 ⟨q.2.val / 3, by omega⟩ ⟨q.2.val % 3, by omega⟩

/-- A row of window sums against the weights, scaled, biased and squashed: the attention of its operand. -/
theorem pay1_att (w : Fin 256 → Fin 256 → Fin 3 → Fin 3 → ℝ) (x : Fin 256 → Fin 384 → Fin 384 → ℝ) (r : Fin 3) (o : Fin 256)
    (hs : ∀ k : Fin 2304, s (ix2 r k) = ((sums x (ix2 ⟨k.val / 9, by omega⟩ ⟨k.val % 9, by omega⟩) : ℝ) : EReal))
    (hw : ∀ k : Fin 2304, wt (ix2 k o) = ((w o ⟨k.val / 9, by omega⟩ ⟨k.val % 9 / 3, by omega⟩ ⟨k.val % 9 % 3, by omega⟩ : ℝ) : EReal)) :
    k1_pay1 (F := Ideal) s wt b (ix2 r o) = att (lin w x o) (show EReal from b (ix2 0 o)) := by
  rw [pay1_at, att, EReal.coe_mul]
  have e : ∑ k : Fin 2304, (show EReal from s (ix2 r k)) * (show EReal from wt (ix2 k o)) = ((lin w x o : ℝ) : EReal) := by
    rw [lin, ← sum_flat fun k di dj => w o k di dj * win di dj (x k), coe_sum]
    refine Finset.sum_congr rfl fun k _ => ?_
    rw [hs, hw, ← EReal.coe_mul, mul_comm]
    rfl
  rw [e]

end Cert.Value
-- ==== Proof.KernelIdeal_Regions.lean ====
/-
  The three calls as segments of the whole run, each entered from what the one before left.
-/
module

public import proofs.«01_k».proof.Proof.KernelIdeal_Data
public import Idealize.ShloMosaic.Lib.Pipeline.RegionArraysS

@[expose] public section

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.Pipeline (Seg HostSeg RegionSeg afterRegion)

local notation "𝕄" => MT nD τ sig Unit (Elt F) ℕ UU ℕ

/-- The pipeline library's algebra is the left component of the certificate's. -/
abbrev EP : Emb (UR sig nD τ) (MT nD τ sig Unit (Elt F) ℕ UU ℕ) := embL

variable (m : (ℓ : Loc nD τ sig) → Buf (Elt F) ℓ)

/-! ## What the calls leave -/

/-- After the first call: its results as the pipeline leaves them, -/
def outsA : Outs (F := F) := fun _ r c => afterRegion (dat0 (V1 m) c) (V1 m c) r
/-- after the second, -/
def outsB : Outs (F := F) := fun J r c => match J with
  | 4 => afterRegion (dat1 (V3 m (outsA m)) c) (V3 m (outsA m) c) r
  | _ => outsA m J r c
/-- and after the third. -/
def outsC : Outs (F := F) := fun J r c => match J with
  | 6 => afterRegion (dat2 (V5 m (outsB m)) c) (V5 m (outsB m) c) r
  | _ => outsB m J r c

theorem V3_eq : V3 m (outsC m) = V3 m (outsA m) := rfl
theorem V3_eq' : V3 m (outsB m) = V3 m (outsA m) := rfl
theorem V5_eq : V5 m (outsC m) = V5 m (outsB m) := rfl

/-- The calls' data, each from what the buffers hold when it is entered. -/
def pdats : (p : Fin 3) → (c : Dev nD) → Dat τ (Elt F) Unit ℕ UU ℕ (cfgs p) c
  | ⟨0, _⟩ => dat0 (V1 m)
  | ⟨1, _⟩ => dat1 (V3 m (outsC m))
  | ⟨2, _⟩ => dat2 (V5 m (outsC m))

/-! ## The calls as segments -/

/-- A call is entered from the buffers and what the core owes alone. -/
theorem entry (V : Valuation τ sig (Elt F)) (c : Dev nD) :
    iprop(StableHlo.held (c : Thread nD τ) (Pipeline.ucRefs τ sig) V ∗ ∃ W, owes (c : Thread nD τ) (0 : CellTallies nD τ sig Unit) W)
      ⊢ (iprop(StableHlo.held (c : Thread nD τ) (Pipeline.ucRefs τ sig) V ∗ ((∃ Wd, owes (c : Thread nD τ) (0 : CellTallies nD τ sig Unit) Wd) ∗ BI.emp ∗ BI.emp)) : sProp 𝕄) := by
  iintro ⟨Hh, HO⟩
  isplitl [Hh]; · iexact Hh
  isplitl [HO]; · iexact HO
  isplitr <;> iempintro

theorem arrs0 : Pipeline.arrRefs (τ := τ) (pcfgs (F := F) 0).spec ⊆ Pipeline.ucRefs τ sig :=
  Pipeline.arrRefs_sub_ucRefs spec0 (by intro w; fin_cases w <;> rfl)
theorem arrs1 : Pipeline.arrRefs (τ := τ) (pcfgs (F := F) 1).spec ⊆ Pipeline.ucRefs τ sig :=
  Pipeline.arrRefs_sub_ucRefs spec1 (by intro w; fin_cases w <;> rfl)
theorem arrs2 : Pipeline.arrRefs (τ := τ) (pcfgs (F := F) 2).spec ⊆ Pipeline.ucRefs τ sig :=
  Pipeline.arrRefs_sub_ucRefs spec2 (by intro w; fin_cases w <;> rfl)

/-- Each core's own cells are at level 0. -/
def L : GSem nD τ sig → Finset Unit := fun g => if g.1.2 = .tc then {()} else ∅
abbrev lv : GSem nD τ sig → Unit → ℕ := fun _ _ => 0
/-- What rides beside the buffers: what the core owes, which is nothing. -/
abbrev Rest (_ : Fin 4) (c : Dev nD) : sProp 𝕄 := iprop(∃ W, owes (c : Thread nD τ) (0 : CellTallies nD τ sig Unit) W)

theorem cut (p : Fin 3) : Pipeline.LevelCut (pcfgs (F := F)) adm () L lv p (fun _ => 0) (fun _ => 0) where
  hι c w s := by unfold L; rw [if_pos rfl]; exact Finset.mem_singleton.mpr rfl
  hιb _ _ _ := le_rfl
  hD _ _ _ h := absurd h (lt_irrefl _)

set_option backward.isDefEq.respectTransparency.types false in
/-- Call 0 over the buffers held at what it is entered with. -/
def reg0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) (fun _ => BI.emp) (fun _ => BI.emp)
    (launch0.toP) rfl (fun c => (obl0 (V1 m) c).loose) (fun _ _ => rfl) (fun _ => rfl) (fun c w => (dat0 (V1 m) c).share_full (fun _ => rfl) w)
    (fun c => by
      rw [show (pdats m 0 c).Φ 0 = Pipeline.scopedRest spec0 c from rfl]
      iintro ⟨Hr, -⟩; iexact Hr)
    (fun c => by
      rw [show (pdats m 0 c).Φ (Fin.last _) = Pipeline.scopedRest spec0 c from rfl]
      iintro Hr; isplitl [Hr]; · iexact Hr
      iempintro)
    (fun _ => 0) (cut 0) (fun _ => BI.emp) (V1 m) (fun c w => rfl)

/-- The buffers after call 0: its results at what the pipeline leaves, the others as they were. -/
theorem after0 (c : Dev nD) (b : DevRef τ sig) (hb : b ∈ Pipeline.ucRefs τ sig) :
    afterRegion (pdats m 0 c) ((V1 m) c) b = V2 m (outsC m) c b := by
  obtain ⟨r, -, rfl⟩ := Finset.mem_map.mp (Finset.mem_filter.mp hb).1
  by_cases h : r ∈ ([main_v2_0, main_v2_1, main_v2_2] : List (Ref sig .tc))
  · simp only [List.mem_cons, List.not_mem_nil, or_false] at h
    rcases h with rfl | rfl | rfl
    · change _ = V2 m (outsC m) c (Proc.devRef .tc main_v2_0)
      rw [V2, Function.update_of_ne (by decide), Function.update_of_ne (by decide), Function.update_self]; rfl
    · change _ = V2 m (outsC m) c (Proc.devRef .tc main_v2_1)
      rw [V2, Function.update_of_ne (by decide), Function.update_self]; rfl
    · change _ = V2 m (outsC m) c (Proc.devRef .tc main_v2_2)
      rw [V2, Function.update_self]; rfl
  · refine Eq.trans ?_ (V2_of m (outsC m) c r h).symm
    refine Pipeline.afterRegion_keeps (pdats m 0 c) ((V1 m) c) winFacts0.arr_inj (fun _ => rfl) r ?_
    intro w e
    fin_cases w <;> first | rfl | exact absurd (e ▸ (by decide)) h

set_option backward.isDefEq.respectTransparency.types false in
/-- Call 1 over the buffers held at what it is entered with. -/
def reg1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) (fun _ => BI.emp) (fun _ => BI.emp)
    (launch1.toP) rfl (fun c => (obl1 (V3 m (outsC m)) c).loose) (fun _ _ => rfl) (fun _ => rfl) (fun c w => (dat1 (V3 m (outsC m)) c).share_full (fun _ => rfl) w)
    (fun c => by
      rw [show (pdats m 1 c).Φ 0 = Pipeline.scopedRest spec1 c from rfl]
      iintro ⟨Hr, -⟩; iexact Hr)
    (fun c => by
      rw [show (pdats m 1 c).Φ (Fin.last _) = Pipeline.scopedRest spec1 c from rfl]
      iintro Hr; isplitl [Hr]; · iexact Hr
      iempintro)
    (fun _ => 0) (cut 1) (fun _ => BI.emp) (V3 m (outsC m)) (fun c w => rfl)

/-- The buffers after call 1: its results at what the pipeline leaves, the others as they were. -/
theorem after1 (c : Dev nD) (b : DevRef τ sig) (hb : b ∈ Pipeline.ucRefs τ sig) :
    afterRegion (pdats m 1 c) ((V3 m (outsC m)) c) b = V4 m (outsC m) c b := by
  obtain ⟨r, -, rfl⟩ := Finset.mem_map.mp (Finset.mem_filter.mp hb).1
  by_cases h : r ∈ ([main_v10_0, main_v10_1] : List (Ref sig .tc))
  · simp only [List.mem_cons, List.not_mem_nil, or_false] at h
    rcases h with rfl | rfl
    · change _ = V4 m (outsC m) c (Proc.devRef .tc main_v10_0)
      rw [V4, Function.update_of_ne (by decide), Function.update_self]; rfl
    · change _ = V4 m (outsC m) c (Proc.devRef .tc main_v10_1)
      rw [V4, Function.update_self]; rfl
  · refine Eq.trans ?_ (V4_of m (outsC m) c r h).symm
    refine Pipeline.afterRegion_keeps (pdats m 1 c) ((V3 m (outsC m)) c) winFacts1.arr_inj (fun _ => rfl) r ?_
    intro w e
    fin_cases w <;> first | rfl | exact absurd (e ▸ (by decide)) h

set_option backward.isDefEq.respectTransparency.types false in
/-- Call 2 over the buffers held at what it is entered with. -/
def reg2 : RegionSeg (pcfgs (F := F)) adm (pdats m) () defs₀ 𝒱₀ L lv 2 :=
  RegionSeg.ofHeldIn (pcfgs (F := F)) adm (pdats m) () defs₀ 𝒱₀ L lv 2 (fun _ => 0) (Pipeline.ucRefs τ sig) (fun _ => BI.emp) (fun _ => BI.emp)
    (launch2.toP) rfl (fun c => (obl2 (V5 m (outsC m)) c).loose) (fun _ _ => rfl) (fun _ => rfl) (fun c w => (dat2 (V5 m (outsC m)) c).share_full (fun _ => rfl) w)
    (fun c => by
      rw [show (pdats m 2 c).Φ 0 = Pipeline.scopedRest spec2 c from rfl]
      iintro ⟨Hr, -⟩; iexact Hr)
    (fun c => by
      rw [show (pdats m 2 c).Φ (Fin.last _) = Pipeline.scopedRest spec2 c from rfl]
      iintro Hr; isplitl [Hr]; · iexact Hr
      iempintro)
    (fun _ => 0) (cut 2) (fun _ => BI.emp) (V5 m (outsC m)) (fun c w => rfl)

/-- The buffers after call 2: its results at what the pipeline leaves, the others as they were. -/
theorem after2 (c : Dev nD) (b : DevRef τ sig) (hb : b ∈ Pipeline.ucRefs τ sig) :
    afterRegion (pdats m 2 c) ((V5 m (outsC m)) c) b = V6 m (outsC m) c b := by
  obtain ⟨r, -, rfl⟩ := Finset.mem_map.mp (Finset.mem_filter.mp hb).1
  by_cases h : r ∈ ([main_v13] : List (Ref sig .tc))
  · simp only [List.mem_cons, List.not_mem_nil, or_false] at h
    rcases h with rfl
    change _ = V6 m (outsC m) c (Proc.devRef .tc main_v13)
    rw [V6, Function.update_self]; rfl
  · refine Eq.trans ?_ (V6_of m (outsC m) c r h).symm
    refine Pipeline.afterRegion_keeps (pdats m 2 c) ((V5 m (outsC m)) c) winFacts2.arr_inj (fun _ => rfl) r ?_
    intro w e
    fin_cases w <;> first | rfl | exact absurd (e ▸ (by decide)) h

set_option backward.isDefEq.respectTransparency.types false in
theorem pre0 (c : Dev nD) : iprop(StableHlo.held (c : Thread nD τ) (Pipeline.ucRefs τ sig) ((V1 m) c) ∗ Rest 0 c) ⊢ (reg0 m).pre c := by
  unfold reg0
  refine BI.Entails.trans ?_ (RegionSeg.ofHeldIn_pre arrs0 c)
  exact entry _ c
set_option backward.isDefEq.respectTransparency.types false in
theorem post0 (c : Dev nD) : (reg0 m).post c ⊢ iprop(StableHlo.held (c : Thread nD τ) (Pipeline.ucRefs τ sig) (V2 m (outsC m) c) ∗ Rest 1 c) := by
  unfold reg0
  refine (RegionSeg.ofHeldIn_post arrs0 c).trans ?_
  rw [StableHlo.held_congr (c : Thread nD τ) (after0 m c)]
  iintro ⟨Hh, HO, -, -⟩
  isplitl [Hh] <;> iassumption

set_option backward.isDefEq.respectTransparency.types false in
theorem pre1 (c : Dev nD) : iprop(StableHlo.held (c : Thread nD τ) (Pipeline.ucRefs τ sig) ((V3 m (outsC m)) c) ∗ Rest 1 c) ⊢ (reg1 m).pre c := by
  unfold reg1
  refine BI.Entails.trans ?_ (RegionSeg.ofHeldIn_pre arrs1 c)
  exact entry _ c
set_option backward.isDefEq.respectTransparency.types false in
theorem post1 (c : Dev nD) : (reg1 m).post c ⊢ iprop(StableHlo.held (c : Thread nD τ) (Pipeline.ucRefs τ sig) (V4 m (outsC m) c) ∗ Rest 2 c) := by
  unfold reg1
  refine (RegionSeg.ofHeldIn_post arrs1 c).trans ?_
  rw [StableHlo.held_congr (c : Thread nD τ) (after1 m c)]
  iintro ⟨Hh, HO, -, -⟩
  isplitl [Hh] <;> iassumption

set_option backward.isDefEq.respectTransparency.types false in
theorem pre2 (c : Dev nD) : iprop(StableHlo.held (c : Thread nD τ) (Pipeline.ucRefs τ sig) ((V5 m (outsC m)) c) ∗ Rest 2 c) ⊢ (reg2 m).pre c := by
  unfold reg2
  refine BI.Entails.trans ?_ (RegionSeg.ofHeldIn_pre arrs2 c)
  exact entry _ c
set_option backward.isDefEq.respectTransparency.types false in
theorem post2 (c : Dev nD) : (reg2 m).post c ⊢ iprop(StableHlo.held (c : Thread nD τ) (Pipeline.ucRefs τ sig) (V6 m (outsC m) c) ∗ Rest 3 c) := by
  unfold reg2
  refine (RegionSeg.ofHeldIn_post arrs2 c).trans ?_
  rw [StableHlo.held_congr (c : Thread nD τ) (after2 m c)]
  iintro ⟨Hh, HO, -, -⟩
  isplitl [Hh] <;> iassumption

end Cert.KernelIdeal.Calls
-- ==== Proof.Host.lean ====
/-
  What the operations between the calls make of the buffers before them, read at coordinates.
-/
module

public import proofs.«01_k».proof.Proof.Coefs
public import proofs.«01_k».proof.Proof.KernelIdeal_Regions
public import Idealize.ShloMosaic.Lib.StableHlo.ReadAt

@[expose] public section

set_option maxRecDepth 16384

noncomputable section

namespace Cert.Value

open Cert.KernelIdeal Cert.KernelIdeal.Gen Cert.KernelIdeal.Calls
open Idealize.ShloMosaic Idealize.ShloMosaic.TcCoe Idealize.ShloMosaic.Tactic

variable (U : Valuation τ sig (Elt Ideal))

theorem host_v0 (o : Fin 256) (h w : Fin 384) : StableHlo.after hostOps0 U main_v0 (ix3 o h w) = U main_arg0 (ix4 0 o h w) := by
  after_reads_at
theorem host_v1 (o : Fin 256) (h w : Fin 384) : StableHlo.after hostOps0 U main_v1 (ix3 o h w) = U main_arg1 (ix4 0 o h w) := by
  after_reads_at
theorem host_v8 (k : Fin 2304) (o : Fin 256) :
    StableHlo.after hostOps1 U main_v8 (ix2 k o) = U main_arg2 (ix4 o ⟨k.val / 9, by omega⟩ ⟨k.val % 9 / 3, by omega⟩ ⟨k.val % 9 % 3, by omega⟩) := by
  after_reads_at
  have e1 : k.val / 3 % 3 = k.val % 9 / 3 := by omega
  have e2 : k.val % 3 = k.val % 9 % 3 := by omega
  simp only [e1, e2]
theorem host_v9 (o : Fin 256) : StableHlo.after hostOps1 U main_v9 (ix2 0 o) = U main_arg3 (ix1 o) := by
  after_reads_at
theorem host_v6_0 (k : Fin 2304) :
    StableHlo.after hostOps1 U main_v6 (ix2 0 k) = U main_v2_0 (ix2 ⟨k.val / 9, by omega⟩ ⟨k.val % 9, by omega⟩) := by
  after_reads_at
  rw [StableHlo.reshape_result]
  after_reads_at
theorem host_v6_1 (k : Fin 2304) :
    StableHlo.after hostOps1 U main_v6 (ix2 1 k) = U main_v2_1 (ix2 ⟨k.val / 9, by omega⟩ ⟨k.val % 9, by omega⟩) := by
  after_reads_at
  rw [StableHlo.reshape_result]
  after_reads_at
theorem host_v6_2 (k : Fin 2304) :
    StableHlo.after hostOps1 U main_v6 (ix2 2 k) = U main_v2_2 (ix2 ⟨k.val / 9, by omega⟩ ⟨k.val % 9, by omega⟩) := by
  after_reads_at
  rw [StableHlo.reshape_result]
  after_reads_at
theorem host_v11 (o : Fin 256) : StableHlo.after hostOps2 U main_v11 (ix3 o 0 0) = U main_v10_0 (ix2 0 o) := by
  after_reads_at
theorem host_v12 (o : Fin 256) : StableHlo.after hostOps2 U main_v12 (ix3 o 0 0) = U main_v10_1 (ix2 0 o) := by
  after_reads_at
theorem host_v14 (o : Fin 256) (h w : Fin 384) : StableHlo.after hostOps3 U main_v14 (ix4 0 o h w) = U main_v13 (ix3 o h w) := by
  after_reads_at

variable (m : (ℓ : Loc nD τ sig) → Buf (Elt Ideal) ℓ) (c : Dev nD)

theorem v13_eq : V6 m (outsC m) c main_v13 = comb (V5 m (outsB m) c main_v11) (V5 m (outsB m) c main_v12) (V5 m (outsB m) c main_v0) (V5 m (outsB m) c main_v1) := by
  rw [V6, Function.update_self]
  exact (Pipeline.afterRegion_arr (dat2 (V5 m (outsB m)) c) (V5 m (outsB m) c) winFacts2.arr_inj 4).trans (arr2_4 (V5 m (outsB m)) c)

end Cert.Value
-- ==== Proof.KernelValue.lean ====
/-
  The kernel's result, read at a place, over finite inputs and weights.
-/
module

public import proofs.«01_k».proof.Proof.Host

@[expose] public section

set_option maxRecDepth 16384

noncomputable section

namespace Cert.Value

open Cert.KernelIdeal Cert.KernelIdeal.Gen Cert.KernelIdeal.Calls
open Idealize.ShloMosaic Idealize.ShloMosaic.TcCoe Idealize.ShloMosaic.Tactic
open Idealize.ShloMosaic.Pipeline (afterRegion_arr)

variable (m : (ℓ : Loc nD τ sig) → Buf (Elt Ideal) ℓ) (c : Dev nD)
variable (x1 x2 : Fin 256 → Fin 384 → Fin 384 → ℝ) (w : Fin 256 → Fin 256 → Fin 3 → Fin 3 → ℝ)

theorem v0_at (hx1 : ∀ o h v, V0 m c main_arg0 (ix4 0 o h v) = (x1 o h v : EReal)) (o : Fin 256) (h v : Fin 384) : V1 m c main_v0 (ix3 o h v) = (x1 o h v : EReal) :=
  (host_v0 (V0 m c) o h v).trans (hx1 o h v)
theorem v1_at (hx2 : ∀ o h v, V0 m c main_arg1 (ix4 0 o h v) = (x2 o h v : EReal)) (o : Fin 256) (h v : Fin 384) : V1 m c main_v1 (ix3 o h v) = (x2 o h v : EReal) :=
  (host_v1 (V0 m c) o h v).trans (hx2 o h v)

/-- What an operation-free buffer holds through the first two calls. -/
theorem V5_keep (r : Ref sig .tc) (h5 : r ∉ hostOps2_W) (h4 : r ∉ ([main_v10_0, main_v10_1] : List (Ref sig .tc))) (h3 : r ∉ hostOps1_W)
    (h2 : r ∉ ([main_v2_0, main_v2_1, main_v2_2] : List (Ref sig .tc))) : V5 m (outsB m) c r = V1 m c r :=
  (V5_of m (outsB m) c r h5).trans <| (V4_of m (outsB m) c r h4).trans <| (V3_of m (outsB m) c r h3).trans <| V2_of m (outsB m) c r h2

theorem V2_keep (r : Ref sig .tc) (h2 : r ∉ ([main_v2_0, main_v2_1, main_v2_2] : List (Ref sig .tc))) (h1 : r ∉ hostOps0_W) : V2 m (outsA m) c r = V0 m c r :=
  (V2_of m (outsA m) c r h2).trans (V1_of m c r h1)

variable (hx1 : ∀ o h v, V0 m c main_arg0 (ix4 0 o h v) = (x1 o h v : EReal)) (hx2 : ∀ o h v, V0 m c main_arg1 (ix4 0 o h v) = (x2 o h v : EReal))
variable (hw : ∀ o k i j, V0 m c main_arg2 (ix4 o k i j) = (w o k i j : EReal))

include hx1 in
theorem v2_0_eq : V2 m (outsA m) c main_v2_0 = fun i => ((sums x1 i : ℝ) : EReal) := by
  rw [V2, Function.update_of_ne (StableHlo.devRef_ne_of_ne (by decide)), Function.update_of_ne (StableHlo.devRef_ne_of_ne (by decide)), Function.update_self]
  exact (afterRegion_arr (dat0 (V1 m) c) (V1 m c) winFacts0.arr_inj 2).trans (arr0_2 (V1 m) c x1 (v0_at m c x1 hx1))
include hx2 in
theorem v2_1_eq : V2 m (outsA m) c main_v2_1 = fun i => ((sums x2 i : ℝ) : EReal) := by
  rw [V2, Function.update_of_ne (StableHlo.devRef_ne_of_ne (by decide)), Function.update_self]
  exact (afterRegion_arr (dat0 (V1 m) c) (V1 m c) winFacts0.arr_inj 3).trans (arr0_3 (V1 m) c x2 (v1_at m c x2 hx2))
include hx1 hx2 in
theorem v2_2_eq : V2 m (outsA m) c main_v2_2 = fun i => ((sums (x1 + x2) i : ℝ) : EReal) := by
  rw [V2, Function.update_self]
  exact (afterRegion_arr (dat0 (V1 m) c) (V1 m c) winFacts0.arr_inj 4).trans (arr0_4 (V1 m) c x1 x2 (v0_at m c x1 hx1) (v1_at m c x2 hx2))

/-- The three attentions the second call computes are those of the two inputs and of their sum. -/
theorem att_row (r : Fin 3) (x : Fin 256 → Fin 384 → Fin 384 → ℝ) (o : Fin 256)
    (hs : ∀ k : Fin 2304, V3 m (outsA m) c main_v6 (ix2 r k) = ((sums x (ix2 ⟨k.val / 9, by omega⟩ ⟨k.val % 9, by omega⟩) : ℝ) : EReal))
    (hw : ∀ o k i j, V0 m c main_arg2 (ix4 o k i j) = (w o k i j : EReal)) :
    k1_pay1 (F := Ideal) (V3 m (outsA m) c main_v6) (V3 m (outsA m) c main_v8) (V3 m (outsA m) c main_v9) (ix2 r o) = att (lin w x o) (show EReal from V0 m c main_arg3 (ix1 o)) := by
  have e9 : V3 m (outsA m) c main_v9 (ix2 0 o) = V0 m c main_arg3 (ix1 o) :=
    (host_v9 (V2 m (outsA m) c) o).trans (congrFun (V2_keep m c main_arg3 (by decide) (by decide)) (ix1 o))
  refine (pay1_att _ _ _ w x r o hs fun k => ?_).trans (congrArg (att (lin w x o)) e9)
  exact (host_v8 (V2 m (outsA m) c) k o).trans ((congrFun (V2_keep m c main_arg2 (by decide) (by decide)) _).trans (hw _ _ _ _))

include hx1 hx2 hw in
theorem kernel_at (o : Fin 256) (h v : Fin 384) :
    V7 m (outsC m) c main_v14 (ix4 0 o h v)
      = ((mix (att (lin w x1 o) (show EReal from V0 m c main_arg3 (ix1 o))) (att (lin w x2 o) (show EReal from V0 m c main_arg3 (ix1 o)))
          (att (lin w (x1 + x2) o) (show EReal from V0 m c main_arg3 (ix1 o))) (x1 o h v) (x2 o h v) : ℝ) : EReal) := by
  have r0 := att_row m c w 0 x1 o (fun k => (host_v6_0 (V2 m (outsA m) c) k).trans (congrFun (v2_0_eq m c x1 hx1) _)) hw
  have r1 := att_row m c w 1 x2 o (fun k => (host_v6_1 (V2 m (outsA m) c) k).trans (congrFun (v2_1_eq m c x2 hx2) _)) hw
  have r2 := att_row m c w 2 (x1 + x2) o (fun k => (host_v6_2 (V2 m (outsA m) c) k).trans (congrFun (v2_2_eq m c x1 x2 hx1 hx2) _)) hw
  have e0 : V4 m (outsB m) c main_v10_0 = k1_pay8 (F := Ideal) (V3 m (outsA m) c main_v6) (V3 m (outsA m) c main_v8) (V3 m (outsA m) c main_v9) := by
    rw [V4, Function.update_of_ne (StableHlo.devRef_ne_of_ne (by decide)), Function.update_self]
    exact (afterRegion_arr (dat1 (V3 m (outsA m)) c) (V3 m (outsA m) c) winFacts1.arr_inj 3).trans (arr1_3 (V3 m (outsA m)) c)
  have e1 : V4 m (outsB m) c main_v10_1 = k1_pay9 (F := Ideal) (V3 m (outsA m) c main_v6) (V3 m (outsA m) c main_v8) (V3 m (outsA m) c main_v9) := by
    rw [V4, Function.update_self]
    exact (afterRegion_arr (dat1 (V3 m (outsA m)) c) (V3 m (outsA m) c) winFacts1.arr_inj 4).trans (arr1_4 (V3 m (outsA m)) c)
  have c1 := (host_v11 (V4 m (outsB m) c) o).trans ((congrFun e0 (ix2 0 o)).trans (pay8_coef _ _ _ o))
  have c2 := (host_v12 (V4 m (outsB m) c) o).trans ((congrFun e1 (ix2 0 o)).trans (pay9_coef _ _ _ o))
  rw [r0, r1, r2] at c1 c2
  have p1 := (congrFun (V5_keep m c main_v0 (by decide) (by decide) (by decide) (by decide)) (ix3 o h v)).trans (v0_at m c x1 hx1 o h v)
  have p2 := (congrFun (V5_keep m c main_v1 (by decide) (by decide) (by decide) (by decide)) (ix3 o h v)).trans (v1_at m c x2 hx2 o h v)
  refine (host_v14 (V6 m (outsC m) c) o h v).trans ((congrFun (v13_eq m c) (ix3 o h v)).trans ?_)
  rw [mix, EReal.coe_add, EReal.coe_mul, EReal.coe_mul]
  exact congrArg₂ (fun a b : EReal => a + b) (congrArg₂ (fun a b : EReal => a * b) c1 p1) (congrArg₂ (fun a b : EReal => a * b) c2 p2)

end Cert.Value
-- ==== Proof.RefValue.lean ====
/-
  The reference's result, read at a place, over finite inputs and weights.
-/
module

public import proofs.«01_k».proof.Proof.Coefs
public import Idealize.ShloMosaic.Lib.Tactic.CleanTypes
public import Idealize.ShloMosaic.Lib.WordCmp

@[expose] public section

set_option maxRecDepth 16384

noncomputable section

namespace Cert.Value

open Cert.ReferenceIdeal Cert.ReferenceIdeal.Gen Cert.ReferenceIdeal.Value
open Idealize.ShloMosaic Idealize.ShloMosaic.TcCoe Idealize.ShloMosaic.Tactic

theorem one_bits (p : Bool) : (FloatOps.uitofp .f32 (BitVec.ofBool p) : Ideal .f32) = (one p : EReal) := by
  change (((BitVec.ofBool p).toNat : ℝ) : EReal) = _
  cases p <;> simp [one]

/-- The squashed means are the attentions. -/
def squash (M : FVec Ideal S256 .f32) : FVec Ideal S256 .f32 :=
  Host.divf (broadcastInDim S256 ![] bcast_S_S256 (constant S_ .f32 0x3F800000#32)) (addf (broadcastInDim S256 ![] bcast_S_S256 (constant S_ .f32 0x3F800000#32)) (Host.exp (Host.negf M)))

variable (U : Valuation τ sig (Elt Ideal))

theorem v68_eq : res_main_v68 U = squash (res_main_v62 U) := rfl
theorem v136_eq : res_main_v136 U = squash (res_main_v130 U) := rfl
theorem v204_eq : res_main_v204 U = squash (res_main_v198 U) := rfl

theorem squash_at (M : FVec Ideal S256 .f32) (o : Fin 256) : squash M (ix1 o) = Ideal.logistic (M (ix1 o)) := by
  pointwise [squash]
  rfl

/-- The result from the three attention vectors and the inputs. -/
def blend (A B C : FVec Ideal S256 .f32) (X Y : FVec Ideal S1x256x384x384 .f32) : FVec Ideal S1x256x384x384 .f32 :=
  addf (addf (mulf (broadcastInDim S1x256x384x384 ![0, 1, 2, 3] bcast_S1x256x1x1_S1x256x384x384_0_1_2_3 (broadcastInDim S1x256x1x1 ![1] bcast_S256_S1x256x1x1_1 (uitofp .f32 (andi (cmpf .oge A B) (cmpf .oge A C))))) X)
    (mulf (broadcastInDim S1x256x384x384 ![0, 1, 2, 3] bcast_S1x256x1x1_S1x256x384x384_0_1_2_3 (broadcastInDim S1x256x1x1 ![1] bcast_S256_S1x256x1x1_1 (uitofp .f32 (andi (cmpf .ole A B) (cmpf .oge B C))))) Y))
    (mulf (broadcastInDim S1x256x384x384 ![0, 1, 2, 3] bcast_S1x256x1x1_S1x256x384x384_0_1_2_3 (broadcastInDim S1x256x1x1 ![1] bcast_S256_S1x256x1x1_1 (uitofp .f32 (ori (andi (cmpf .oge A B) (cmpf .olt A C)) (andi (cmpf .ole A B) (cmpf .olt B C)))))) (addf X Y))

theorem blend_at (A B C : FVec Ideal S256 .f32) (X Y : FVec Ideal S1x256x384x384 .f32) (o : Fin 256) (h v : Fin 384) (p q : ℝ)
    (hX : X (ix4 0 o h v) = (p : EReal)) (hY : Y (ix4 0 o h v) = (q : EReal)) :
    blend A B C X Y (ix4 0 o h v)
      = ((lead1 (A (ix1 o)) (B (ix1 o)) (C (ix1 o)) * p + lead2 (A (ix1 o)) (B (ix1 o)) (C (ix1 o)) * q + lead3 (A (ix1 o)) (B (ix1 o)) (C (ix1 o)) * (p + q) : ℝ) : EReal) := by
  pointwise [blend]
  rw [hX, hY]
  simp only [WordCmp.andi_ofBool, WordCmp.ori_ofBool, one_bits]
  push_cast [lead1, lead2, lead3]
  rfl

variable (x1 x2 : Fin 256 → Fin 384 → Fin 384 → ℝ) (w : Fin 256 → Fin 256 → Fin 3 → Fin 3 → ℝ)
variable (hx1 : ∀ o h v, U (Proc.devRef .tc main_arg0) (ix4 0 o h v) = (x1 o h v : EReal)) (hx2 : ∀ o h v, U (Proc.devRef .tc main_arg1) (ix4 0 o h v) = (x2 o h v : EReal))
variable (hw : ∀ o k i j, U (Proc.devRef .tc main_arg2) (ix4 o k i j) = (w o k i j : EReal))

include hx1 in
theorem v1_real (o : Fin 256) (h v : Fin 384) : res_main_v1 U (ix3 o h v) = (x1 o h v : EReal) := by
  refine Eq.trans ?_ (hx1 o h v)
  unfold res_main_v1
  clean_types
  pointwise
include hx2 in
theorem v69_real (o : Fin 256) (h v : Fin 384) : res_main_v69 U (ix3 o h v) = (x2 o h v : EReal) := by
  refine Eq.trans ?_ (hx2 o h v)
  unfold res_main_v69
  clean_types
  pointwise
include hx1 hx2 in
theorem v137_real (o : Fin 256) (h v : Fin 384) : res_main_v137 U (ix3 o h v) = ((x1 + x2) o h v : EReal) := by
  have e : res_main_v137 U (ix3 o h v) = (show EReal from U (Proc.devRef .tc main_arg0) (ix4 0 o h v)) + (show EReal from U (Proc.devRef .tc main_arg1) (ix4 0 o h v)) := by
    unfold res_main_v137 res_main_v0
    clean_types
    pointwise
  rw [e, hx1, hx2]
  rfl

/-- The mean of an operand, squashed, is the attention. -/
theorem att_ref (X : FVec Ideal S256x384x384 .f32) (x : Fin 256 → Fin 384 → Fin 384 → ℝ) (hX : ∀ k i j, X (ix3 k i j) = (x k i j : EReal))
    (hw : ∀ o k i j, U (Proc.devRef .tc main_arg2) (ix4 o k i j) = (w o k i j : EReal)) (o : Fin 256) :
    squash (meanV X (U (Proc.devRef .tc main_arg2)) (U (Proc.devRef .tc main_arg3))) (ix1 o) = att (lin w x o) (show EReal from U (Proc.devRef .tc main_arg3) (ix1 o)) :=
  (squash_at _ o).trans (congrArg Ideal.logistic (meanV_at X _ _ w x hX hw o))

include hx1 hx2 hw in
/-- The reference's result at a place. -/
theorem ref_at (o : Fin 256) (h v : Fin 384) :
    blend (res_main_v68 U) (res_main_v136 U) (res_main_v204 U) (U (Proc.devRef .tc main_arg0)) (U (Proc.devRef .tc main_arg1)) (ix4 0 o h v)
      = ((mix (att (lin w x1 o) (show EReal from U (Proc.devRef .tc main_arg3) (ix1 o))) (att (lin w x2 o) (show EReal from U (Proc.devRef .tc main_arg3) (ix1 o)))
          (att (lin w (x1 + x2) o) (show EReal from U (Proc.devRef .tc main_arg3) (ix1 o))) (x1 o h v) (x2 o h v) : ℝ) : EReal) := by
  have a : res_main_v68 U (ix1 o) = _ := att_ref U w (res_main_v1 U) x1 (v1_real U x1 hx1) hw o
  have b : res_main_v136 U (ix1 o) = _ := att_ref U w (res_main_v69 U) x2 (v69_real U x2 hx2) hw o
  have c : res_main_v204 U (ix1 o) = _ := att_ref U w (res_main_v137 U) (x1 + x2) (v137_real U x1 x2 hx1 hx2) hw o
  refine (blend_at _ _ _ _ _ o h v _ _ (hx1 o h v) (hx2 o h v)).trans (congrArg (fun r : ℝ => (r : EReal)) ?_)
  rw [a, b, c, mix]
  ring

end Cert.Value
-- ==== Proof.Finite.lean ====
/-
  The precondition, element by element: every entry of the inputs and of the weights is a real number.
-/
module

public import proofs.«01_k».proof.Pre_finite_inputs
public import Idealize.ShloMosaic.Lib.ReduceAll
public import Idealize.ShloMosaic.PureOps.Ideal

@[expose] public section

noncomputable section

namespace Cert.Value

open Cert.Pre_finite_inputs
open Idealize.ShloMosaic

/-- The relations the precondition's operations take. -/
theorem preFacts : Cert.Pre_finite_inputs.Facts where
  bcast_S_S1x256x384x384 := by decide
  reducesTo_S1x256x384x384_S_d0_1_2_3 := by decide
  h_S_ := by decide
  bcast_S_S256x256x3x3 := by decide
  reducesTo_S256x256x3x3_S_d0_1_2_3 := by decide

theorem inf_bits : Ideal.ofBits .f32 0x7F800000#32 = (⊤ : EReal) := by
  simp [Ideal.ofBits, Ideal.ieee]

/-- Where every magnitude is below infinity, every entry is its own real part. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    x i = ((EReal.toReal (x i) : ℝ) : EReal) := by
  have h : Ideal.cmp .olt (max (show EReal from x i) (-(show EReal from x i))) (Ideal.ofBits .f32 0x7F800000#32) = 1#1 := Host.reduce_andi_all _ _ _ _ j e i
  rw [inf_bits] at h
  have h' : max (show EReal from x i) (-(show EReal from x i)) < ⊤ := by
    by_contra hn
    simp [Ideal.cmp, hn] at h
  obtain ⟨h1, h2⟩ := max_lt_iff.mp h'
  refine (EReal.coe_toReal h1.ne fun hb => ?_).symm
  rw [hb] at h2
  exact absurd h2 (by simp)

/-- The precondition over the extended reals, read element by element. -/
theorem real_of_pre [Cert.Pre_finite_inputs.Facts] (X Y : FVec Ideal S1x256x384x384 .f32) (W : FVec Ideal S256x256x3x3 .f32) (b : FVec Ideal S256 .f32) (h : fn X Y W b = fun _ => 1#1) :
    (∀ i, X i = ((EReal.toReal (X i) : ℝ) : EReal)) ∧ (∀ i, Y i = ((EReal.toReal (Y i) : ℝ) : EReal)) ∧ ∀ i, W i = ((EReal.toReal (W i) : ℝ) : EReal) := by
  have j : S_.Idx := fun i => i.elim0
  obtain ⟨h12, h3⟩ := IntOp.andi_eq_one.mp (congrFun h j)
  obtain ⟨h1, h2⟩ := IntOp.andi_eq_one.mp h12
  exact ⟨real_of_all X _ _ _ j h1, real_of_all Y _ _ _ j h2, real_of_all W _ _ _ j h3⟩

end Cert.Value
-- ==== Proof.KernelIdeal_Run.lean ====
/-
  The whole run: it ends, leaves its arguments alone, and leaves the result that the calls compute.
-/
module

public import proofs.«01_k».proof.Proof.KernelIdeal_Regions

@[expose] public section

set_option maxRecDepth 16384

noncomputable section

namespace Cert.KernelIdeal.Calls

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- The launch token of the whole run. -/
abbrev u₀ : UU := (initOf (Pipeline.cells (Pipeline.pin (pcfgs (F := F)) adm) cellOf_inj) (Pipeline.launchToks (Pipeline.pin (pcfgs (F := F)) adm) cellOf_inj), 1)

set_option backward.isDefEq.respectTransparency.types false in
/-- Every weakly fair execution of the whole program from memory `m` ends, with every argument as it was, the result at what the
    last call leaves in it, and every semaphore back at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v14) = V7 m (outsC m) c main_v14)
      ∧ r.2.sem = fun _ => 0) := by
  refine Pipeline.θ_run_regions_kit_dev_sems (pcfgs (F := F)) adm (pdats m) () cellOf_inj EP defs₀ 𝒱₀ L lv m ρ main
    (segs m (outsC m) 𝒱₀ L lv Rest () (pdats m) (reg0 m) (reg1 m) (reg2 m))
    (fun c Q => by
      rewrite [main_chain c, Pipeline.Seg.run_eq_chain,
        show (segs m (outsC m) 𝒱₀ L lv Rest () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (fun _ => 0) (fun g h => if_neg h) (fun _ => BI.emp) (u₀ (F := F)) ?_
    (T₀ := fun c => iprop(StableHlo.held (c : Thread nD τ) (Pipeline.ucRefs τ sig) (V0 m c) ∗ Rest 0 c))
    (Tₙ := fun c => StableHlo.held (c : Thread nD τ) (Pipeline.ucRefs τ sig) (V7 m (outsC m) c))
    (hch := fun c => ⟨.rfl, pre0 m c, post0 m c, pre1 m c, post1 m c, pre2 m c, post2 m c, .rfl⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
      ∧ s.mem ((c.tc : Thread nD τ).loc main_v14) = V7 m (outsC m) c main_v14)
    (hfin := fun c s' => ?_) (hQ := fun _ h hz => ⟨h, funext fun g => hz g (.inr (regions_no_unscoped g.2))⟩)
  · refine (ownU_pair _ _).trans ?_
    iintro ⟨HL, -⟩
    imodintro
    isplitl [HL]; · iexact HL
    iapply (show (BI.emp : sProp 𝕄) ⊢ bigSep Finset.univ (fun _ : Dev nD => (BI.emp : sProp 𝕄)) from by rw [BI.bigSep_emp_const])
    iempintro
  · refine Pipeline.initEach L lv fun c => ?_
    rw [show iprop(unscopedBufs c (fun b => m ((c.tc : Thread nD τ).loc b))) = StableHlo.held (c : Thread nD τ) (Pipeline.ucRefs τ sig) (V0 m c)
      from Pipeline.unscopedBufs_held (Ix := Unit) (Name := ℕ) (U := UU) (Lvl := ℕ) c (V0 m c)]
    iintro ⟨⟨Hb, -, HO, -⟩, -⟩
    imodintro
    isplitl [Hb]; · iexact Hb
    iexists ∅
    iexact HO
  · unfold StableHlo.held
    iintro ⟨Hh, HSI⟩
    ihave Hr := (pointsTo_read_all (Pipeline.ucRefs τ sig) (fun b => ((c : Thread nD τ).1, b)) (V7 m (outsC m) c) s') $$ [Hh HSI]
    · isplitl [Hh] <;> iassumption
    icases Hr with ⟨%h, HSI⟩
    imodintro
    isplitr
    · ipureintro
      have hr (r : Ref sig .tc) (hs : ¬ (Proc.devRef .tc r : DevRef τ sig).isScoped) := h (Proc.devRef .tc r) (Finset.mem_filter.mpr ⟨StableHlo.devRef_mem_tcRefs r, hs⟩)
      exact ⟨⟨(hr main_arg0 (by decide)).trans (V7_main_arg0 m (outsC m) c), (hr main_arg1 (by decide)).trans (V7_main_arg1 m (outsC m) c),
        (hr main_arg2 (by decide)).trans (V7_main_arg2 m (outsC m) c), (hr main_arg3 (by decide)).trans (V7_main_arg3 m (outsC m) c)⟩, hr main_v14 (by decide)⟩
    · iexact HSI

end Cert.KernelIdeal.Calls
-- ==== Proof.Frames.lean ====
/-
  The programs' frames: each ends, leaves its arguments as they were and every semaphore at zero.
-/
module

public import proofs.«01_k».proof.Defs
public import proofs.«01_k».proof.Proof.Gen.ReferenceIdeal.Run
public import proofs.«01_k».proof.Proof.Kernel_Run
public import proofs.«01_k».proof.Proof.KernelIdeal_Run

@[expose] public section

noncomputable section

namespace Cert.Frames

open Idealize.ShloMosaic Idealize.SL.Sem

/-- The kernel's frame over float words. -/
theorem kernel : quiescent_Kernel := fun m ρ _ =>
  (θ_run Cert.Kernel.defs _ _).mono (fun _ h => ⟨fun c => (h.1 c).1, h.2⟩) (Cert.Kernel.Calls.run m ρ)

/-- The kernel's frame over the extended reals. -/
theorem kernelIdeal : quiescent_KernelIdeal := fun m ρ _ =>
  (θ_run Cert.KernelIdeal.defs _ _).mono (fun _ h => ⟨fun c => (h.1 c).1, h.2⟩) (Cert.KernelIdeal.Calls.run m ρ)

/-- The reference declares no semaphore. -/
theorem reference_no_sem : ∀ _ : SemLoc Cert.ReferenceIdeal.sig, False := by decide

/-- The reference's frame. -/
theorem reference : quiescent_ReferenceIdeal := fun m ρ _ =>
  (θ_run Cert.ReferenceIdeal.defs _ _).mono (fun _ h => ⟨fun c => (h c).2, funext fun g => (reference_no_sem g.2).elim⟩)
    (Cert.ReferenceIdeal.Value.run m ρ)

/-- The named reciprocal reads as the exact one. -/
theorem preserves : preserves_Kernel_KernelIdeal := IdealRules.named_const.statement _ _ _ _ _ rfl

end Cert.Frames

end
-- ==== Proof.Algebraic.lean ====
/-
  The two programs' results agree over the extended reals, on finite inputs and weights.
-/
module

public import proofs.«01_k».proof.Proof.KernelValue
public import proofs.«01_k».proof.Proof.RefValue
public import proofs.«01_k».proof.Proof.Finite
public import proofs.«01_k».proof.Proof.Frames

@[expose] public section

set_option maxRecDepth 16384

noncomputable section

namespace Cert.Frames

open Cert.Value
open Idealize.ShloMosaic Idealize.ShloMosaic.TcCoe Idealize.SL.Sem Idealize.ShloMosaic.Tactic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- On arguments that agree and are finite, the kernel leaves what the reference's operations compose to. -/
theorem results_agree [Cert.Pre_finite_inputs.Facts] (c : Dev Cert.KernelIdeal.nD) (U : Valuation Cert.ReferenceIdeal.τ Cert.ReferenceIdeal.sig (Elt Ideal))
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (h0 : U (Proc.devRef .tc Cert.ReferenceIdeal.main_arg0) = m ((c.tc : Thread Cert.KernelIdeal.nD Cert.KernelIdeal.τ).loc Cert.KernelIdeal.main_arg0))
    (h1 : U (Proc.devRef .tc Cert.ReferenceIdeal.main_arg1) = m ((c.tc : Thread Cert.KernelIdeal.nD Cert.KernelIdeal.τ).loc Cert.KernelIdeal.main_arg1))
    (h2 : U (Proc.devRef .tc Cert.ReferenceIdeal.main_arg2) = m ((c.tc : Thread Cert.KernelIdeal.nD Cert.KernelIdeal.τ).loc Cert.KernelIdeal.main_arg2))
    (h3 : U (Proc.devRef .tc Cert.ReferenceIdeal.main_arg3) = m ((c.tc : Thread Cert.KernelIdeal.nD Cert.KernelIdeal.τ).loc Cert.KernelIdeal.main_arg3)) :
    blend (Cert.ReferenceIdeal.Value.res_main_v68 U) (Cert.ReferenceIdeal.Value.res_main_v136 U) (Cert.ReferenceIdeal.Value.res_main_v204 U)
        (U (Proc.devRef .tc Cert.ReferenceIdeal.main_arg0)) (U (Proc.devRef .tc Cert.ReferenceIdeal.main_arg1))
      = Cert.KernelIdeal.Gen.V7 m (Cert.KernelIdeal.Calls.outsC m) c Cert.KernelIdeal.main_v14 := by
  obtain ⟨r1, r2, rw⟩ := real_of_pre _ _ _ _ hpre
  funext i
  rw [eq_ix4 i]
  have hz0 : i 0 = (0 : Fin 1) := Subsingleton.elim (α := Fin 1) _ _
  rw [hz0]
  refine (ref_at U (fun o h v => EReal.toReal (m ((c.tc : Thread Cert.KernelIdeal.nD Cert.KernelIdeal.τ).loc Cert.KernelIdeal.main_arg0) (ix4 0 o h v)))
    (fun o h v => EReal.toReal (m ((c.tc : Thread Cert.KernelIdeal.nD Cert.KernelIdeal.τ).loc Cert.KernelIdeal.main_arg1) (ix4 0 o h v)))
    (fun o k a b => EReal.toReal (m ((c.tc : Thread Cert.KernelIdeal.nD Cert.KernelIdeal.τ).loc Cert.KernelIdeal.main_arg2) (ix4 o k a b)))
    (fun o h v => (congrFun h0 _).trans (r1 _)) (fun o h v => (congrFun h1 _).trans (r2 _)) (fun o k a b => (congrFun h2 _).trans (rw _)) (i 1) (i 2) (i 3)).trans
    (Eq.trans ?_ (kernel_at m c _ _ _ (fun o h v => r1 (ix4 0 o h v)) (fun o h v => r2 (ix4 0 o h v)) (fun o k a b => rw (ix4 o k a b)) (i 1) (i 2) (i 3)).symm)
  rw [h3]

/-- Both programs run, and their results agree. -/
theorem algebraic [Cert.Pre_finite_inputs.Facts] : algebraic_KernelIdeal_ReferenceIdeal_pre_finite_inputs := fun m g m' g' hpre hargs =>
  ⟨fun c => Cert.KernelIdeal.Gen.V7 m (Cert.KernelIdeal.Calls.outsC m) c Cert.KernelIdeal.main_v14,
    (θ_run Cert.KernelIdeal.defs _ _).mono (fun _ h c => ⟨(h.1 c).2, (h.1 c).1⟩) (Cert.KernelIdeal.Calls.run m g),
    (θ_run Cert.ReferenceIdeal.defs _ _).mono
      (fun _ h c => ⟨(h c).1.trans (results_agree m c (StableHlo.launchContents m' c) (hpre c) (hargs c).1 (hargs c).2.1 (hargs c).2.2.1 (hargs c).2.2.2), (h c).2⟩)
      (Cert.ReferenceIdeal.Value.run m' g')⟩

end Cert.Frames
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.Value.preFacts,
  Frames.kernel, Frames.kernelIdeal, fun m ρ _ => Frames.kernelIdeal m ρ trivial, Frames.reference, fun m ρ _ => Frames.reference m ρ trivial,
  Frames.preserves, @Frames.algebraic Cert.Value.preFacts⟩

end Cert.Proof

end
